-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨4, ![2, 64, 64, 64]⟩ ⟨4, ![2, 2048, 64, 64]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨4, ![2, 64, 64, 128]⟩ ⟨4, ![2, 2048, 64, 128]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2x64x64x64 : Shape := ⟨4, ![2, 64, 64, 64]⟩
abbrev S64x128 : Shape := ⟨2, ![64, 128]⟩
abbrev S_ : Shape := ⟨0, ![]⟩

class Facts : Prop where
  bcast_S_S2x64x64x64 : S_.BroadcastsInDim S2x64x64x64 (![] : Fin 0 → Fin S2x64x64x64.rank)

variable [Facts]

def fn {F : FTy → Type} [FloatOps F] (main_arg0 : FVec F S2x64x64x64 .f32) (main_arg1 : FVec F S64x128 .f32) : IVec S2x64x64x64 1 :=
  let main_v0 : FVec F S2x64x64x64 .f32 := Host.absf main_arg0
  let main_cst : FVec F S_ .f32 := constant S_ .f32 0x7F800000#32
  let main_v1 : FVec F S2x64x64x64 .f32 := broadcastInDim S2x64x64x64 ![] bcast_S_S2x64x64x64 main_cst
  let main_v2 : IVec S2x64x64x64 1 := cmpf .olt main_v0 main_v1
  main_v2
-- ==== Pre_finite_x_ReferenceIdeal.lean ====
abbrev S2x2048x64x64 : Shape := ⟨4, ![2, 2048, 64, 64]⟩
abbrev S64x128 : Shape := ⟨2, ![64, 128]⟩
abbrev S_ : Shape := ⟨0, ![]⟩

class Facts : Prop where
  bcast_S_S2x2048x64x64 : S_.BroadcastsInDim S2x2048x64x64 (![] : Fin 0 → Fin S2x2048x64x64.rank)

variable [Facts]

def fn {F : FTy → Type} [FloatOps F] (main_arg0 : FVec F S2x2048x64x64 .f32) (main_arg1 : FVec F S64x128 .f32) : IVec S2x2048x64x64 1 :=
  let main_v0 : FVec F S2x2048x64x64 .f32 := Host.absf main_arg0
  let main_cst : FVec F S_ .f32 := constant S_ .f32 0x7F800000#32
  let main_v1 : FVec F S2x2048x64x64 .f32 := broadcastInDim S2x2048x64x64 ![] bcast_S_S2x2048x64x64 main_cst
  let main_v2 : IVec S2x2048x64x64 1 := cmpf .olt main_v0 main_v1
  main_v2
-- ==== Kernel.lean ====
abbrev S2x64x64x64 : Shape := ⟨4, ![2, 64, 64, 64]⟩
abbrev S64x128 : Shape := ⟨2, ![64, 128]⟩
abbrev S2x64x64x128 : Shape := ⟨4, ![2, 64, 64, 128]⟩
abbrev S2x128 : Shape := ⟨2, ![2, 128]⟩
abbrev S32x2x128 : Shape := ⟨3, ![32, 2, 128]⟩
abbrev S31 : Shape := ⟨1, ![31]⟩
abbrev S32 : Shape := ⟨1, ![32]⟩
abbrev S_ : Shape := ⟨0, ![]⟩
abbrev S2x4096x64 : Shape := ⟨3, ![2, 4096, 64]⟩
abbrev S2x64 : Shape := ⟨2, ![2, 64]⟩
abbrev S1 : Shape := ⟨1, ![1]⟩
abbrev S1x2x128 : Shape := ⟨3, ![1, 2, 128]⟩
abbrev S2x1x64 : Shape := ⟨3, ![2, 1, 64]⟩
abbrev S8192x64 : Shape := ⟨2, ![8192, 64]⟩
abbrev S8192x128 : Shape := ⟨2, ![8192, 128]⟩

abbrev nBuf : Space → Nat
  | .hbm => 3
  | .vmem => 5
  | .smem => 0
  | _ => 0

abbrev bufTy : (tb : Table) → Fin (tcTables nBuf tb) → BufTy
  | .hbm, ⟨0, _⟩ => ⟨S2x64x64x64, .f32⟩
  | .hbm, ⟨1, _⟩ => ⟨S64x128, .f32⟩
  | .hbm, ⟨2, _⟩ => ⟨S2x64x64x128, .f32⟩
  | .local _ .vmem, ⟨0, _⟩ => ⟨S2x64x64x64, .f32⟩
  | .local _ .vmem, ⟨1, _⟩ => ⟨S64x128, .f32⟩
  | .local _ .vmem, ⟨2, _⟩ => ⟨S2x64x64x128, .f32⟩
  | .local _ .vmem, ⟨3, _⟩ => ⟨S2x128, .f32⟩
  | .local _ .vmem, ⟨4, _⟩ => ⟨S32x2x128, .f32⟩
  | _, _ => ⟨S2x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2 : BitVec 32 := 1#32
  let v8 : BitVec 32 := Scalar.addi v2 c1_i32_2
  let c32_i32_3 : BitVec 32 := 32#32
  let v9 : BitVec 32 := Scalar.remsi v8 c32_i32_3
  let c1_i32_5 : BitVec 32 := 1#32
  let v10 : BitVec 32 := Scalar.muli v9 c1_i32_5
  let v11 : BitVec 32 := Scalar.addi c0_i32 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v12 : BitVec 32 := Scalar.addi v2 c2_i32
  let c32_i32_6 : BitVec 32 := 32#32
  let v13 : BitVec 32 := Scalar.remsi v12 c32_i32_6
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v16 : BitVec 32 := Scalar.addi v2 c3_i32
  let c32_i32_10 : BitVec 32 := 32#32
  let v17 : BitVec 32 := Scalar.remsi v16 c32_i32_10
  let c1_i32_12 : BitVec 32 := 1#32
  let v18 : BitVec 32 := Scalar.muli v17 c1_i32_12
  let v19 : BitVec 32 := Scalar.addi c0_i32_13 v18
  v19.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v20 : BitVec 32 := Scalar.addi v2 c4_i32
  let c32_i32_14 : BitVec 32 := 32#32
  let v21 : BitVec 32 := Scalar.remsi v20 c32_i32_14
  let c1_i32_16 : BitVec 32 := 1#32
  let v22 : BitVec 32 := Scalar.muli v21 c1_i32_16
  let v23 : BitVec 32 := Scalar.addi c0_i32_17 v22
  v23.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v24 : BitVec 32 := Scalar.addi v2 c5_i32
  let c32_i32_18 : BitVec 32 := 32#32
  let v25 : BitVec 32 := Scalar.remsi v24 c32_i32_18
  let c1_i32_20 : BitVec 32 := 1#32
  let v26 : BitVec 32 := Scalar.muli v25 c1_i32_20
  let v27 : BitVec 32 := Scalar.addi c0_i32_21 v26
  v27.toNat
def k0_dev6 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v28 : BitVec 32 := Scalar.addi v2 c6_i32
  let c32_i32_22 : BitVec 32 := 32#32
  let v29 : BitVec 32 := Scalar.remsi v28 c32_i32_22
  let c1_i32_24 : BitVec 32 := 1#32
  let v30 : BitVec 32 := Scalar.muli v29 c1_i32_24
  let v31 : BitVec 32 := Scalar.addi c0_i32_25 v30
  v31.toNat
def k0_dev7 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v32 : BitVec 32 := Scalar.addi v2 c7_i32
  let c32_i32_26 : BitVec 32 := 32#32
  let v33 : BitVec 32 := Scalar.remsi v32 c32_i32_26
  let c1_i32_28 : BitVec 32 := 1#32
  let v34 : BitVec 32 := Scalar.muli v33 c1_i32_28
  let v35 : BitVec 32 := Scalar.addi c0_i32_29 v34
  v35.toNat
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v36 : BitVec 32 := Scalar.addi v2 c8_i32
  let c32_i32_30 : BitVec 32 := 32#32
  let v37 : BitVec 32 := Scalar.remsi v36 c32_i32_30
  let c1_i32_32 : BitVec 32 := 1#32
  let v38 : BitVec 32 := Scalar.muli v37 c1_i32_32
  let v39 : BitVec 32 := Scalar.addi c0_i32_33 v38
  v39.toNat
def k0_dev9 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v40 : BitVec 32 := Scalar.addi v2 c9_i32
  let c32_i32_34 : BitVec 32 := 32#32
  let v41 : BitVec 32 := Scalar.remsi v40 c32_i32_34
  let c1_i32_36 : BitVec 32 := 1#32
  let v42 : BitVec 32 := Scalar.muli v41 c1_i32_36
  let v43 : BitVec 32 := Scalar.addi c0_i32_37 v42
  v43.toNat
def k0_dev10 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v44 : BitVec 32 := Scalar.addi v2 c10_i32
  let c32_i32_38 : BitVec 32 := 32#32
  let v45 : BitVec 32 := Scalar.remsi v44 c32_i32_38
  let c1_i32_40 : BitVec 32 := 1#32
  let v46 : BitVec 32 := Scalar.muli v45 c1_i32_40
  let v47 : BitVec 32 := Scalar.addi c0_i32_41 v46
  v47.toNat
def k0_dev11 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v48 : BitVec 32 := Scalar.addi v2 c11_i32
  let c32_i32_42 : BitVec 32 := 32#32
  let v49 : BitVec 32 := Scalar.remsi v48 c32_i32_42
  let c1_i32_44 : BitVec 32 := 1#32
  let v50 : BitVec 32 := Scalar.muli v49 c1_i32_44
  let v51 : BitVec 32 := Scalar.addi c0_i32_45 v50
  v51.toNat
def k0_dev12 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v52 : BitVec 32 := Scalar.addi v2 c12_i32
  let c32_i32_46 : BitVec 32 := 32#32
  let v53 : BitVec 32 := Scalar.remsi v52 c32_i32_46
  let c1_i32_48 : BitVec 32 := 1#32
  let v54 : BitVec 32 := Scalar.muli v53 c1_i32_48
  let v55 : BitVec 32 := Scalar.addi c0_i32_49 v54
  v55.toNat
def k0_dev13 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v56 : BitVec 32 := Scalar.addi v2 c13_i32
  let c32_i32_50 : BitVec 32 := 32#32
  let v57 : BitVec 32 := Scalar.remsi v56 c32_i32_50
  let c1_i32_52 : BitVec 32 := 1#32
  let v58 : BitVec 32 := Scalar.muli v57 c1_i32_52
  let v59 : BitVec 32 := Scalar.addi c0_i32_53 v58
  v59.toNat
def k0_dev14 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v60 : BitVec 32 := Scalar.addi v2 c14_i32
  let c32_i32_54 : BitVec 32 := 32#32
  let v61 : BitVec 32 := Scalar.remsi v60 c32_i32_54
  let c1_i32_56 : BitVec 32 := 1#32
  let v62 : BitVec 32 := Scalar.muli v61 c1_i32_56
  let v63 : BitVec 32 := Scalar.addi c0_i32_57 v62
  v63.toNat
def k0_dev15 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v64 : BitVec 32 := Scalar.addi v2 c15_i32
  let c32_i32_58 : BitVec 32 := 32#32
  let v65 : BitVec 32 := Scalar.remsi v64 c32_i32_58
  let c1_i32_60 : BitVec 32 := 1#32
  let v66 : BitVec 32 := Scalar.muli v65 c1_i32_60
  let v67 : BitVec 32 := Scalar.addi c0_i32_61 v66
  v67.toNat
def k0_dev16 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v68 : BitVec 32 := Scalar.addi v2 c16_i32
  let c32_i32_62 : BitVec 32 := 32#32
  let v69 : BitVec 32 := Scalar.remsi v68 c32_i32_62
  let c1_i32_64 : BitVec 32 := 1#32
  let v70 : BitVec 32 := Scalar.muli v69 c1_i32_64
  let v71 : BitVec 32 := Scalar.addi c0_i32_65 v70
  v71.toNat
def k0_dev17 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v72 : BitVec 32 := Scalar.addi v2 c17_i32
  let c32_i32_66 : BitVec 32 := 32#32
  let v73 : BitVec 32 := Scalar.remsi v72 c32_i32_66
  let c1_i32_68 : BitVec 32 := 1#32
  let v74 : BitVec 32 := Scalar.muli v73 c1_i32_68
  let v75 : BitVec 32 := Scalar.addi c0_i32_69 v74
  v75.toNat
def k0_dev18 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v76 : BitVec 32 := Scalar.addi v2 c18_i32
  let c32_i32_70 : BitVec 32 := 32#32
  let v77 : BitVec 32 := Scalar.remsi v76 c32_i32_70
  let c1_i32_72 : BitVec 32 := 1#32
  let v78 : BitVec 32 := Scalar.muli v77 c1_i32_72
  let v79 : BitVec 32 := Scalar.addi c0_i32_73 v78
  v79.toNat
def k0_dev19 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v80 : BitVec 32 := Scalar.addi v2 c19_i32
  let c32_i32_74 : BitVec 32 := 32#32
  let v81 : BitVec 32 := Scalar.remsi v80 c32_i32_74
  let c1_i32_76 : BitVec 32 := 1#32
  let v82 : BitVec 32 := Scalar.muli v81 c1_i32_76
  let v83 : BitVec 32 := Scalar.addi c0_i32_77 v82
  v83.toNat
def k0_dev20 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v84 : BitVec 32 := Scalar.addi v2 c20_i32
  let c32_i32_78 : BitVec 32 := 32#32
  let v85 : BitVec 32 := Scalar.remsi v84 c32_i32_78
  let c1_i32_80 : BitVec 32 := 1#32
  let v86 : BitVec 32 := Scalar.muli v85 c1_i32_80
  let v87 : BitVec 32 := Scalar.addi c0_i32_81 v86
  v87.toNat
def k0_dev21 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v88 : BitVec 32 := Scalar.addi v2 c21_i32
  let c32_i32_82 : BitVec 32 := 32#32
  let v89 : BitVec 32 := Scalar.remsi v88 c32_i32_82
  let c1_i32_84 : BitVec 32 := 1#32
  let v90 : BitVec 32 := Scalar.muli v89 c1_i32_84
  let v91 : BitVec 32 := Scalar.addi c0_i32_85 v90
  v91.toNat
def k0_dev22 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v92 : BitVec 32 := Scalar.addi v2 c22_i32
  let c32_i32_86 : BitVec 32 := 32#32
  let v93 : BitVec 32 := Scalar.remsi v92 c32_i32_86
  let c1_i32_88 : BitVec 32 := 1#32
  let v94 : BitVec 32 := Scalar.muli v93 c1_i32_88
  let v95 : BitVec 32 := Scalar.addi c0_i32_89 v94
  v95.toNat
def k0_dev23 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v96 : BitVec 32 := Scalar.addi v2 c23_i32
  let c32_i32_90 : BitVec 32 := 32#32
  let v97 : BitVec 32 := Scalar.remsi v96 c32_i32_90
  let c1_i32_92 : BitVec 32 := 1#32
  let v98 : BitVec 32 := Scalar.muli v97 c1_i32_92
  let v99 : BitVec 32 := Scalar.addi c0_i32_93 v98
  v99.toNat
def k0_dev24 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v100 : BitVec 32 := Scalar.addi v2 c24_i32
  let c32_i32_94 : BitVec 32 := 32#32
  let v101 : BitVec 32 := Scalar.remsi v100 c32_i32_94
  let c1_i32_96 : BitVec 32 := 1#32
  let v102 : BitVec 32 := Scalar.muli v101 c1_i32_96
  let v103 : BitVec 32 := Scalar.addi c0_i32_97 v102
  v103.toNat
def k0_dev25 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v104 : BitVec 32 := Scalar.addi v2 c25_i32
  let c32_i32_98 : BitVec 32 := 32#32
  let v105 : BitVec 32 := Scalar.remsi v104 c32_i32_98
  let c1_i32_100 : BitVec 32 := 1#32
  let v106 : BitVec 32 := Scalar.muli v105 c1_i32_100
  let v107 : BitVec 32 := Scalar.addi c0_i32_101 v106
  v107.toNat
def k0_dev26 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v108 : BitVec 32 := Scalar.addi v2 c26_i32
  let c32_i32_102 : BitVec 32 := 32#32
  let v109 : BitVec 32 := Scalar.remsi v108 c32_i32_102
  let c1_i32_104 : BitVec 32 := 1#32
  let v110 : BitVec 32 := Scalar.muli v109 c1_i32_104
  let v111 : BitVec 32 := Scalar.addi c0_i32_105 v110
  v111.toNat
def k0_dev27 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v112 : BitVec 32 := Scalar.addi v2 c27_i32
  let c32_i32_106 : BitVec 32 := 32#32
  let v113 : BitVec 32 := Scalar.remsi v112 c32_i32_106
  let c1_i32_108 : BitVec 32 := 1#32
  let v114 : BitVec 32 := Scalar.muli v113 c1_i32_108
  let v115 : BitVec 32 := Scalar.addi c0_i32_109 v114
  v115.toNat
def k0_dev28 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v116 : BitVec 32 := Scalar.addi v2 c28_i32
  let c32_i32_110 : BitVec 32 := 32#32
  let v117 : BitVec 32 := Scalar.remsi v116 c32_i32_110
  let c1_i32_112 : BitVec 32 := 1#32
  let v118 : BitVec 32 := Scalar.muli v117 c1_i32_112
  let v119 : BitVec 32 := Scalar.addi c0_i32_113 v118
  v119.toNat
def k0_dev29 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v120 : BitVec 32 := Scalar.addi v2 c29_i32
  let c32_i32_114 : BitVec 32 := 32#32
  let v121 : BitVec 32 := Scalar.remsi v120 c32_i32_114
  let c1_i32_116 : BitVec 32 := 1#32
  let v122 : BitVec 32 := Scalar.muli v121 c1_i32_116
  let v123 : BitVec 32 := Scalar.addi c0_i32_117 v122
  v123.toNat
def k0_dev30 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v124 : BitVec 32 := Scalar.addi v2 c30_i32
  let c32_i32_118 : BitVec 32 := 32#32
  let v125 : BitVec 32 := Scalar.remsi v124 c32_i32_118
  let c1_i32_120 : BitVec 32 := 1#32
  let v126 : BitVec 32 := Scalar.muli v125 c1_i32_120
  let v127 : BitVec 32 := Scalar.addi c0_i32_121 v126
  v127.toNat
def k0_dev31 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v128 : BitVec 32 := Scalar.addi v2 c31_i32
  let c32_i32_122 : BitVec 32 := 32#32
  let v129 : BitVec 32 := Scalar.remsi v128 c32_i32_122
  let c1_i32_124 : BitVec 32 := 1#32
  let v130 : BitVec 32 := Scalar.muli v129 c1_i32_124
  let v131 : BitVec 32 := Scalar.addi c0_i32_125 v130
  v131.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_140 : BitVec 32 := 0#32
  let c0_i32_141 : BitVec 32 := 0#32
  ![v2.toNat, 0, 0]
def k0_dev32 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_135 : BitVec 32 := 1#32
  let v142 : BitVec 32 := Scalar.addi v2 c1_i32_135
  let c32_i32_136 : BitVec 32 := 32#32
  let v143 : BitVec 32 := Scalar.remsi v142 c32_i32_136
  let c1_i32_138 : BitVec 32 := 1#32
  let v144 : BitVec 32 := Scalar.muli v143 c1_i32_138
  let v145 : BitVec 32 := Scalar.addi c0_i32_139 v144
  v145.toNat
def k0_dev33 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_142 : BitVec 32 := 2#32
  let v152 : BitVec 32 := Scalar.addi v2 c2_i32_142
  let c32_i32_143 : BitVec 32 := 32#32
  let v153 : BitVec 32 := Scalar.remsi v152 c32_i32_143
  let c1_i32_145 : BitVec 32 := 1#32
  let v154 : BitVec 32 := Scalar.muli v153 c1_i32_145
  let v155 : BitVec 32 := Scalar.addi c0_i32_146 v154
  v155.toNat
def k0_dev34 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_149 : BitVec 32 := 3#32
  let v162 : BitVec 32 := Scalar.addi v2 c3_i32_149
  let c32_i32_150 : BitVec 32 := 32#32
  let v163 : BitVec 32 := Scalar.remsi v162 c32_i32_150
  let c1_i32_152 : BitVec 32 := 1#32
  let v164 : BitVec 32 := Scalar.muli v163 c1_i32_152
  let v165 : BitVec 32 := Scalar.addi c0_i32_153 v164
  v165.toNat
def k0_dev35 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_156 : BitVec 32 := 4#32
  let v172 : BitVec 32 := Scalar.addi v2 c4_i32_156
  let c32_i32_157 : BitVec 32 := 32#32
  let v173 : BitVec 32 := Scalar.remsi v172 c32_i32_157
  let c1_i32_159 : BitVec 32 := 1#32
  let v174 : BitVec 32 := Scalar.muli v173 c1_i32_159
  let v175 : BitVec 32 := Scalar.addi c0_i32_160 v174
  v175.toNat
def k0_dev36 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_163 : BitVec 32 := 5#32
  let v182 : BitVec 32 := Scalar.addi v2 c5_i32_163
  let c32_i32_164 : BitVec 32 := 32#32
  let v183 : BitVec 32 := Scalar.remsi v182 c32_i32_164
  let c1_i32_166 : BitVec 32 := 1#32
  let v184 : BitVec 32 := Scalar.muli v183 c1_i32_166
  let v185 : BitVec 32 := Scalar.addi c0_i32_167 v184
  v185.toNat
def k0_dev37 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_170 : BitVec 32 := 6#32
  let v192 : BitVec 32 := Scalar.addi v2 c6_i32_170
  let c32_i32_171 : BitVec 32 := 32#32
  let v193 : BitVec 32 := Scalar.remsi v192 c32_i32_171
  let c1_i32_173 : BitVec 32 := 1#32
  let v194 : BitVec 32 := Scalar.muli v193 c1_i32_173
  let v195 : BitVec 32 := Scalar.addi c0_i32_174 v194
  v195.toNat
def k0_dev38 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_177 : BitVec 32 := 7#32
  let v202 : BitVec 32 := Scalar.addi v2 c7_i32_177
  let c32_i32_178 : BitVec 32 := 32#32
  let v203 : BitVec 32 := Scalar.remsi v202 c32_i32_178
  let c1_i32_180 : BitVec 32 := 1#32
  let v204 : BitVec 32 := Scalar.muli v203 c1_i32_180
  let v205 : BitVec 32 := Scalar.addi c0_i32_181 v204
  v205.toNat
def k0_dev39 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_184 : BitVec 32 := 8#32
  let v212 : BitVec 32 := Scalar.addi v2 c8_i32_184
  let c32_i32_185 : BitVec 32 := 32#32
  let v213 : BitVec 32 := Scalar.remsi v212 c32_i32_185
  let c1_i32_187 : BitVec 32 := 1#32
  let v214 : BitVec 32 := Scalar.muli v213 c1_i32_187
  let v215 : BitVec 32 := Scalar.addi c0_i32_188 v214
  v215.toNat
def k0_dev40 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_191 : BitVec 32 := 9#32
  let v222 : BitVec 32 := Scalar.addi v2 c9_i32_191
  let c32_i32_192 : BitVec 32 := 32#32
  let v223 : BitVec 32 := Scalar.remsi v222 c32_i32_192
  let c1_i32_194 : BitVec 32 := 1#32
  let v224 : BitVec 32 := Scalar.muli v223 c1_i32_194
  let v225 : BitVec 32 := Scalar.addi c0_i32_195 v224
  v225.toNat
def k0_dev41 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_198 : BitVec 32 := 10#32
  let v232 : BitVec 32 := Scalar.addi v2 c10_i32_198
  let c32_i32_199 : BitVec 32 := 32#32
  let v233 : BitVec 32 := Scalar.remsi v232 c32_i32_199
  let c1_i32_201 : BitVec 32 := 1#32
  let v234 : BitVec 32 := Scalar.muli v233 c1_i32_201
  let v235 : BitVec 32 := Scalar.addi c0_i32_202 v234
  v235.toNat
def k0_dev42 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_205 : BitVec 32 := 11#32
  let v242 : BitVec 32 := Scalar.addi v2 c11_i32_205
  let c32_i32_206 : BitVec 32 := 32#32
  let v243 : BitVec 32 := Scalar.remsi v242 c32_i32_206
  let c1_i32_208 : BitVec 32 := 1#32
  let v244 : BitVec 32 := Scalar.muli v243 c1_i32_208
  let v245 : BitVec 32 := Scalar.addi c0_i32_209 v244
  v245.toNat
def k0_dev43 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_212 : BitVec 32 := 12#32
  let v252 : BitVec 32 := Scalar.addi v2 c12_i32_212
  let c32_i32_213 : BitVec 32 := 32#32
  let v253 : BitVec 32 := Scalar.remsi v252 c32_i32_213
  let c1_i32_215 : BitVec 32 := 1#32
  let v254 : BitVec 32 := Scalar.muli v253 c1_i32_215
  let v255 : BitVec 32 := Scalar.addi c0_i32_216 v254
  v255.toNat
def k0_dev44 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_219 : BitVec 32 := 13#32
  let v262 : BitVec 32 := Scalar.addi v2 c13_i32_219
  let c32_i32_220 : BitVec 32 := 32#32
  let v263 : BitVec 32 := Scalar.remsi v262 c32_i32_220
  let c1_i32_222 : BitVec 32 := 1#32
  let v264 : BitVec 32 := Scalar.muli v263 c1_i32_222
  let v265 : BitVec 32 := Scalar.addi c0_i32_223 v264
  v265.toNat
def k0_dev45 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_226 : BitVec 32 := 14#32
  let v272 : BitVec 32 := Scalar.addi v2 c14_i32_226
  let c32_i32_227 : BitVec 32 := 32#32
  let v273 : BitVec 32 := Scalar.remsi v272 c32_i32_227
  let c1_i32_229 : BitVec 32 := 1#32
  let v274 : BitVec 32 := Scalar.muli v273 c1_i32_229
  let v275 : BitVec 32 := Scalar.addi c0_i32_230 v274
  v275.toNat
def k0_dev46 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_233 : BitVec 32 := 15#32
  let v282 : BitVec 32 := Scalar.addi v2 c15_i32_233
  let c32_i32_234 : BitVec 32 := 32#32
  let v283 : BitVec 32 := Scalar.remsi v282 c32_i32_234
  let c1_i32_236 : BitVec 32 := 1#32
  let v284 : BitVec 32 := Scalar.muli v283 c1_i32_236
  let v285 : BitVec 32 := Scalar.addi c0_i32_237 v284
  v285.toNat
def k0_dev47 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_240 : BitVec 32 := 16#32
  let v292 : BitVec 32 := Scalar.addi v2 c16_i32_240
  let c32_i32_241 : BitVec 32 := 32#32
  let v293 : BitVec 32 := Scalar.remsi v292 c32_i32_241
  let c1_i32_243 : BitVec 32 := 1#32
  let v294 : BitVec 32 := Scalar.muli v293 c1_i32_243
  let v295 : BitVec 32 := Scalar.addi c0_i32_244 v294
  v295.toNat
def k0_dev48 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_247 : BitVec 32 := 17#32
  let v302 : BitVec 32 := Scalar.addi v2 c17_i32_247
  let c32_i32_248 : BitVec 32 := 32#32
  let v303 : BitVec 32 := Scalar.remsi v302 c32_i32_248
  let c1_i32_250 : BitVec 32 := 1#32
  let v304 : BitVec 32 := Scalar.muli v303 c1_i32_250
  let v305 : BitVec 32 := Scalar.addi c0_i32_251 v304
  v305.toNat
def k0_dev49 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_254 : BitVec 32 := 18#32
  let v312 : BitVec 32 := Scalar.addi v2 c18_i32_254
  let c32_i32_255 : BitVec 32 := 32#32
  let v313 : BitVec 32 := Scalar.remsi v312 c32_i32_255
  let c1_i32_257 : BitVec 32 := 1#32
  let v314 : BitVec 32 := Scalar.muli v313 c1_i32_257
  let v315 : BitVec 32 := Scalar.addi c0_i32_258 v314
  v315.toNat
def k0_dev50 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_261 : BitVec 32 := 19#32
  let v322 : BitVec 32 := Scalar.addi v2 c19_i32_261
  let c32_i32_262 : BitVec 32 := 32#32
  let v323 : BitVec 32 := Scalar.remsi v322 c32_i32_262
  let c1_i32_264 : BitVec 32 := 1#32
  let v324 : BitVec 32 := Scalar.muli v323 c1_i32_264
  let v325 : BitVec 32 := Scalar.addi c0_i32_265 v324
  v325.toNat
def k0_dev51 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_268 : BitVec 32 := 20#32
  let v332 : BitVec 32 := Scalar.addi v2 c20_i32_268
  let c32_i32_269 : BitVec 32 := 32#32
  let v333 : BitVec 32 := Scalar.remsi v332 c32_i32_269
  let c1_i32_271 : BitVec 32 := 1#32
  let v334 : BitVec 32 := Scalar.muli v333 c1_i32_271
  let v335 : BitVec 32 := Scalar.addi c0_i32_272 v334
  v335.toNat
def k0_dev52 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_275 : BitVec 32 := 21#32
  let v342 : BitVec 32 := Scalar.addi v2 c21_i32_275
  let c32_i32_276 : BitVec 32 := 32#32
  let v343 : BitVec 32 := Scalar.remsi v342 c32_i32_276
  let c1_i32_278 : BitVec 32 := 1#32
  let v344 : BitVec 32 := Scalar.muli v343 c1_i32_278
  let v345 : BitVec 32 := Scalar.addi c0_i32_279 v344
  v345.toNat
def k0_dev53 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_282 : BitVec 32 := 22#32
  let v352 : BitVec 32 := Scalar.addi v2 c22_i32_282
  let c32_i32_283 : BitVec 32 := 32#32
  let v353 : BitVec 32 := Scalar.remsi v352 c32_i32_283
  let c1_i32_285 : BitVec 32 := 1#32
  let v354 : BitVec 32 := Scalar.muli v353 c1_i32_285
  let v355 : BitVec 32 := Scalar.addi c0_i32_286 v354
  v355.toNat
def k0_dev54 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_289 : BitVec 32 := 23#32
  let v362 : BitVec 32 := Scalar.addi v2 c23_i32_289
  let c32_i32_290 : BitVec 32 := 32#32
  let v363 : BitVec 32 := Scalar.remsi v362 c32_i32_290
  let c1_i32_292 : BitVec 32 := 1#32
  let v364 : BitVec 32 := Scalar.muli v363 c1_i32_292
  let v365 : BitVec 32 := Scalar.addi c0_i32_293 v364
  v365.toNat
def k0_dev55 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_296 : BitVec 32 := 24#32
  let v372 : BitVec 32 := Scalar.addi v2 c24_i32_296
  let c32_i32_297 : BitVec 32 := 32#32
  let v373 : BitVec 32 := Scalar.remsi v372 c32_i32_297
  let c1_i32_299 : BitVec 32 := 1#32
  let v374 : BitVec 32 := Scalar.muli v373 c1_i32_299
  let v375 : BitVec 32 := Scalar.addi c0_i32_300 v374
  v375.toNat
def k0_dev56 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_303 : BitVec 32 := 25#32
  let v382 : BitVec 32 := Scalar.addi v2 c25_i32_303
  let c32_i32_304 : BitVec 32 := 32#32
  let v383 : BitVec 32 := Scalar.remsi v382 c32_i32_304
  let c1_i32_306 : BitVec 32 := 1#32
  let v384 : BitVec 32 := Scalar.muli v383 c1_i32_306
  let v385 : BitVec 32 := Scalar.addi c0_i32_307 v384
  v385.toNat
def k0_dev57 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_310 : BitVec 32 := 26#32
  let v392 : BitVec 32 := Scalar.addi v2 c26_i32_310
  let c32_i32_311 : BitVec 32 := 32#32
  let v393 : BitVec 32 := Scalar.remsi v392 c32_i32_311
  let c1_i32_313 : BitVec 32 := 1#32
  let v394 : BitVec 32 := Scalar.muli v393 c1_i32_313
  let v395 : BitVec 32 := Scalar.addi c0_i32_314 v394
  v395.toNat
def k0_dev58 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_317 : BitVec 32 := 27#32
  let v402 : BitVec 32 := Scalar.addi v2 c27_i32_317
  let c32_i32_318 : BitVec 32 := 32#32
  let v403 : BitVec 32 := Scalar.remsi v402 c32_i32_318
  let c1_i32_320 : BitVec 32 := 1#32
  let v404 : BitVec 32 := Scalar.muli v403 c1_i32_320
  let v405 : BitVec 32 := Scalar.addi c0_i32_321 v404
  v405.toNat
def k0_dev59 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_324 : BitVec 32 := 28#32
  let v412 : BitVec 32 := Scalar.addi v2 c28_i32_324
  let c32_i32_325 : BitVec 32 := 32#32
  let v413 : BitVec 32 := Scalar.remsi v412 c32_i32_325
  let c1_i32_327 : BitVec 32 := 1#32
  let v414 : BitVec 32 := Scalar.muli v413 c1_i32_327
  let v415 : BitVec 32 := Scalar.addi c0_i32_328 v414
  v415.toNat
def k0_dev60 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_331 : BitVec 32 := 29#32
  let v422 : BitVec 32 := Scalar.addi v2 c29_i32_331
  let c32_i32_332 : BitVec 32 := 32#32
  let v423 : BitVec 32 := Scalar.remsi v422 c32_i32_332
  let c1_i32_334 : BitVec 32 := 1#32
  let v424 : BitVec 32 := Scalar.muli v423 c1_i32_334
  let v425 : BitVec 32 := Scalar.addi c0_i32_335 v424
  v425.toNat
def k0_dev61 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_338 : BitVec 32 := 30#32
  let v432 : BitVec 32 := Scalar.addi v2 c30_i32_338
  let c32_i32_339 : BitVec 32 := 32#32
  let v433 : BitVec 32 := Scalar.remsi v432 c32_i32_339
  let c1_i32_341 : BitVec 32 := 1#32
  let v434 : BitVec 32 := Scalar.muli v433 c1_i32_341
  let v435 : BitVec 32 := Scalar.addi c0_i32_342 v434
  v435.toNat
def k0_dev62 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_345 : BitVec 32 := 31#32
  let v442 : BitVec 32 := Scalar.addi v2 c31_i32_345
  let c32_i32_346 : BitVec 32 := 32#32
  let v443 : BitVec 32 := Scalar.remsi v442 c32_i32_346
  let c1_i32_348 : BitVec 32 := 1#32
  let v444 : BitVec 32 := Scalar.muli v443 c1_i32_348
  let v445 : BitVec 32 := Scalar.addi c0_i32_349 v444
  v445.toNat
abbrev stage0_0 : Fin 1 → Memref sig .tc .vmem S2x64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x2048x64x64 : Shape := ⟨4, ![2, 2048, 64, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S262144x64 : Shape := ⟨2, ![262144, 64]⟩
abbrev S262144x128 : Shape := ⟨2, ![262144, 128]⟩
abbrev S2x2048x64x128 : Shape := ⟨4, ![2, 2048, 64, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x64x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x2048x64x64, .f32⟩
  | .hbm, ⟨16, _⟩ => ⟨S2x2048x64x64, .f32⟩
  | .hbm, ⟨17, _⟩ => ⟨S2x2048x64x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x2048x64x64, .f32⟩
  | .hbm, ⟨33, _⟩ => ⟨S2x2048x64x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x2048x64x64, .f32⟩
  | .hbm, ⟨39, _⟩ => ⟨S2x2048x64x64, .f32⟩
  | .hbm, ⟨40, _⟩ => ⟨S2x2048x64x64, .f32⟩
  | .hbm, ⟨41, _⟩ => ⟨S2x2048x64x64, .f32⟩
  | .hbm, ⟨42, _⟩ => ⟨S_, .f32⟩
  | .hbm, ⟨43, _⟩ => ⟨S2x2048x64x64, .f32⟩
  | .hbm, ⟨44, _⟩ => ⟨S2x2048x64x64, .f32⟩
  | .hbm, ⟨45, _⟩ => ⟨S2x2048x64x64, .f32⟩
  | .hbm, ⟨46, _⟩ => ⟨S262144x64, .f32⟩
  | .hbm, ⟨47, _⟩ => ⟨S262144x128, .f32⟩
  | .hbm, ⟨48, _⟩ => ⟨S2x2048x64x128, .f32⟩
  | _, _ => ⟨S2x2048x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]
-- ==== Proof.Cells.lean ====
/-
# The devices, views and semaphore cells of the exchange

Every one of the 32 devices sends its 2 x 128 statistics block to the 31 others. The names used by the whole proof:
the `k`-th device after `c` (`tgt c k`), the slot of the landing buffer a device's block lands in (`slotM`), the
semaphores of the send to the `k`-th device (`sSem k`) and of the landing from device `j` (`rSem j`), and how the views
the program computes from its device id read in those names.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Quiescent
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe

/-! ## Neighbours -/

set_option backward.proofsInPublic true in
/-- The device `k + 1` places after `c`. -/
def tgt (c : Dev nD) (k : Fin 31) : Dev nD := ⟨(c.val + (k.val + 1)) % 32, Nat.mod_lt _ (by decide)⟩

/-- The device `k + 1` places before `c`, which is the device `31 - k` places after it. -/
def src (c : Dev nD) (k : Fin 31) : Dev nD := tgt c k.rev

/-- The place of a target. -/
theorem tgt_val (c : Dev nD) (k : Fin 31) : (tgt c k).val = (c.val + (k.val + 1)) % 32 := rfl

/-- The source at distance `k` of the target at distance `k` is the device itself. -/
theorem src_tgt (c : Dev nD) (k : Fin 31) : src (tgt c k) k = c := by
  apply Fin.ext
  have h := c.isLt
  have hk := k.isLt
  simp only [src, tgt_val, Fin.val_rev]
  change c.val < 32 at h
  omega

/-- The target at distance `k` of the source at distance `k` is the device itself. -/
theorem tgt_src (c : Dev nD) (k : Fin 31) : tgt (src c k) k = c := by
  apply Fin.ext
  have h := c.isLt
  have hk := k.isLt
  simp only [src, tgt_val, Fin.val_rev]
  change c.val < 32 at h
  omega

/-- A step and the reversed step come back. -/
theorem tgt_tgt_rev (c : Dev nD) (k : Fin 31) : tgt (tgt c k) k.rev = c := src_tgt c k

/-- No device is its own target. -/
theorem tgt_ne (c : Dev nD) (k : Fin 31) : tgt c k ≠ c := by
  intro h
  have h' := congrArg Fin.val h
  have hc := c.isLt
  have hk := k.isLt
  rw [tgt_val] at h'
  change c.val < 32 at hc
  omega

/-- No device is its own source. -/
theorem src_ne (c : Dev nD) (k : Fin 31) : src c k ≠ c := tgt_ne c _

/-- Different distances have different targets. -/
theorem tgt_inj (c : Dev nD) : Function.Injective (tgt c) := by
  intro k k' h
  have h' := congrArg Fin.val h
  have hc := c.isLt
  have hk := k.isLt
  have hk' := k'.isLt
  rw [tgt_val, tgt_val] at h'
  change c.val < 32 at hc
  exact Fin.ext (by omega)

/-- Different distances have different sources. -/
theorem src_inj (c : Dev nD) : Function.Injective (src c) := fun k k' h => Fin.rev_injective (tgt_inj c h)

/-- The 31 devices before `c` are all the others. -/
theorem src_cover (c : Dev nD) : Finset.univ.map ⟨src c, src_inj c⟩ = Finset.univ.erase c := by
  refine Finset.eq_of_subset_of_card_le (fun d hd => ?_) ?_
  · obtain ⟨k, -, rfl⟩ := Finset.mem_map.mp hd
    exact Finset.mem_erase.mpr ⟨src_ne c k, Finset.mem_univ _⟩
  · rw [Finset.card_map, Finset.card_erase_of_mem (Finset.mem_univ _), Finset.card_univ, Finset.card_univ, Fintype.card_fin, Fintype.card_fin]
    exact le_refl 31

/-- The 31 devices after `c` are all the others. -/
theorem tgt_cover (c : Dev nD) : Finset.univ.map ⟨tgt c, tgt_inj c⟩ = Finset.univ.erase c := by
  refine Finset.eq_of_subset_of_card_le (fun d hd => ?_) ?_
  · obtain ⟨k, -, rfl⟩ := Finset.mem_map.mp hd
    exact Finset.mem_erase.mpr ⟨tgt_ne c k, Finset.mem_univ _⟩
  · rw [Finset.card_map, Finset.card_erase_of_mem (Finset.mem_univ _), Finset.card_univ, Finset.card_univ, Fintype.card_fin, Fintype.card_fin]
    exact le_refl 31

/-! ## Memrefs -/

/-- The block of `x`, staged. -/
abbrev xM : Memref sig .tc .vmem S2x64x64x64 .f32 := Memref.whole cc0_stg0_0
/-- The projection, staged. -/
abbrev wM : Memref sig .tc .vmem S64x128 .f32 := Memref.whole cc0_stg1_0
/-- The result, staged. -/
abbrev oM : Memref sig .tc .vmem S2x64x64x128 .f32 := Memref.whole cc0_stg2_0
/-- The statistics of the own block. -/
abbrev aM : Memref sig .tc .vmem S2x128 .f32 := Memref.whole cc0_scratch0
/-- The landing buffer. -/
abbrev cM : Memref sig .tc .vmem S32x2x128 .f32 := Memref.whole cc0_scratch1

/-- A slot lies in the landing buffer. -/
theorem slot_inb (j : Dev nD) : ∀ a, (![j.val, 0, 0] : Fin 3 → ℕ) a + S1x2x128.size a ≤ S32x2x128.size a := by revert j; decide +kernel

/-- Slot `j` of the landing buffer, as a 2 x 128 view. -/
abbrev slotM (j : Dev nD) : Memref sig .tc .vmem S2x128 .f32 :=
  (cM.slice (Rect.unit (s := S32x2x128) ![j.val, 0, 0] S1x2x128.size (slot_inb j)) (fun _ => rfl)).squeeze S2x128 squeezes_S1x2x128_S2x128

/-! ## Semaphores -/

set_option backward.proofsInPublic true in
/-- The semaphore of the send to the `k`-th device after the sender. -/
def sSem (k : Fin 31) : DmaSem sig := ⟨3 + k.val, by have := k.isLt; show 3 + k.val < 66; omega⟩
set_option backward.proofsInPublic true in
/-- The semaphore of the landing from device `j`. -/
def rSem (j : Dev nD) : DmaSem sig := ⟨34 + j.val, by have := j.isLt; change j.val < 32 at this; show 34 + j.val < 66; omega⟩
/-- The barrier semaphore. -/
abbrev bSem : Sem sig := (SemArray.scalar (sig.barrier 0 rfl) : Sems sig S_).sem

/-- A landing semaphore lies in its array. -/
theorem sem1_inb (j : Dev nD) : ∀ a, (![j.val] : Fin 1 → ℕ) a + S1.size a ≤ S32.size a := by revert j; decide +kernel

/-- The landing semaphore at the offset of device `c` is semaphore `c`. -/
theorem rsem_eq (c : Dev nD) (h : ∀ a, (k0_off1 c) a + S1.size a ≤ S32.size a) : ((cc0_scratch3.slice (Rect.unit (s := S32) (k0_off1 c) S1.size h)).squeeze S_ squeezes_S1_S_).sem = rSem c := by
  revert c; decide +kernel
/-- A slice of the landing buffer at the corner of slot `j`, as a 2 x 128 view, is slot `j`. -/
theorem slot_eq (j : Dev nD) (o : Fin 3 → ℕ) (ho : o = ![j.val, 0, 0]) (h : ∀ a, o a + S1x2x128.size a ≤ S32x2x128.size a)
    (h2 : ∀ a : Fin S32x2x128.rank, (Rect.unit (s := S32x2x128) o S1x2x128.size h).stride a = 1) :
    (cM.slice (Rect.unit (s := S32x2x128) o S1x2x128.size h) h2).squeeze S2x128 squeezes_S1x2x128_S2x128 = slotM j := by
  subst ho
  rfl

/-- The credit of one 2 x 128 block. -/
abbrev N : ℕ := aM.view.dmaCredit
/-- A block is worth some credit. -/
theorem N_pos : 0 < N := View.dmaCredit_pos _ (by decide)
end Cert.Exchange
end
-- ==== Proof.Schedule.lean ====
/-
# The protocol of the exchange

Three kinds of cells, each with one round. The barrier cell of device `d` has 31 duties of one unit, duty `j` paid by
the `j`-th device after `d`, which hands `d` its own landing slot `d`: after the wait for 31 a device holds its slot on
every other device. A send cell has one duty, the block's credit, and hands the sender back the share of its statistics
block that the send read. A landing cell has one duty, the block's credit, and hands the receiver the slot holding the
sender's statistics block. A device's own landing cell has no duty: nobody sends there.
-/
module

public import proofs.«01_k».proof.Proof.Cells
public import Idealize.ShloMosaic.Lib.ValueLayout

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The resource algebra: the pipeline library's copy and the exchange's (duties `Fin 31`) -/

/-- The ghost state of the exchange. -/
abbrev UB : Type := URounds (GSem nD τ sig) (Fin 31)
/-- All ghost state. -/
abbrev UU : Type := UR sig nD τ × UB

local notation "𝕄" => MT nD τ sig Unit (Elt F) ℕ UU ℕ

/-- Where the pipeline keeps its ghost state. -/
abbrev EP : Emb (UR sig nD τ) (MT nD τ sig Unit (Elt F) ℕ UU ℕ) := embL
/-- Where the exchange keeps its own. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

/-- Device `c`'s barrier. -/
abbrev barCell (c : Dev nD) : GSem nD τ sig := ((c : Thread nD τ), .reg bSem)
/-- Device `c`'s departure semaphore `k`. -/
abbrev sendCell (c : Dev nD) (k : Fin 31) : GSem nD τ sig := ((c : Thread nD τ), .dma (sSem k))
/-- Device `c`'s landing semaphore `j`. -/
abbrev recvCell (c j : Dev nD) : GSem nD τ sig := ((c : Thread nD τ), .dma (rSem j))

/-- The kernel's own semaphores: the 31 of its sends and the 32 of its landings. -/
abbrev OIx : Type := Fin 31 ⊕ Fin 32
/-- All the exchange's semaphores of one device: its barrier, its sends, its landings. -/
abbrev CIx : Type := Unit ⊕ OIx
/-- The semaphore of a cell. -/
def csem : CIx → SemLoc sig
  | .inl _ => .reg bSem
  | .inr (.inl k) => .dma (sSem k)
  | .inr (.inr j) => .dma (rSem j)
/-- A cell on a device. -/
abbrev kcell (x : Dev nD × CIx) : GSem nD τ sig := ((x.1 : Thread nD τ), csem x.2)
/-- The barrier. -/
abbrev bI : CIx := .inl ()
/-- Departure `k`. -/
abbrev sI (k : Fin 31) : CIx := .inr (.inl k)
/-- Landing `j`. -/
abbrev rI (j : Dev nD) : CIx := .inr (.inr j)

/-- Different departures have different semaphores. -/
theorem sSem_inj {k k' : Fin 31} (h : sSem k = sSem k') : k = k' := by
  have := congrArg Fin.val h
  simp only [sSem] at this
  exact Fin.ext (by omega)
/-- Different landings have different semaphores. -/
theorem rSem_inj {k k' : Dev nD} (h : rSem k = rSem k') : k = k' := by
  have := congrArg Fin.val h
  simp only [rSem] at this
  exact Fin.ext (by omega)
/-- No departure semaphore is a landing semaphore. -/
theorem sSem_ne_rSem (k : Fin 31) (j : Dev nD) : sSem k ≠ rSem j := fun h => by
  have := congrArg Fin.val h
  have hk := k.isLt
  simp only [sSem, rSem] at this
  omega

/-- Different cells have different semaphores. -/
theorem csem_injective : Function.Injective csem := by
  rintro (_ | k | j) (_ | k' | j') h
  · rfl
  · exact absurd h (fun h => by cases h)
  · exact absurd h (fun h => by cases h)
  · exact absurd h (fun h => by cases h)
  · exact congrArg sI (sSem_inj (SemLoc.dma.inj h))
  · exact absurd (SemLoc.dma.inj h) (sSem_ne_rSem k j')
  · exact absurd h (fun h => by cases h)
  · exact absurd (SemLoc.dma.inj h).symm (sSem_ne_rSem k' j)
  · exact congrArg rI (rSem_inj (SemLoc.dma.inj h))

/-- The same over all devices. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- The projection, as staged on device `c`. -/
def wstg (c : Dev nD) : (cc0_stg1_0 : Ref sig .tc).ty.Contents (Elt F) :=
  (win0_1.blk (0 : Fin 1)).view.read (Elt F) ((s₀ m ρ).mem ((c : Thread nD τ).loc main_arg1))
/-- Device `c`'s statistics block. -/
def stat (c : Dev nD) : (cc0_scratch0 : Ref sig .tc).ty.Contents (Elt F) := k0_pay3 (xstg m ρ c)
/-- Device `c`'s landing buffer once every block has landed: its own slot at zero, slot `j` at device `j`'s statistics. -/
def commFinal (c : Dev nD) : (cc0_scratch1 : Ref sig .tc).ty.Contents (Elt F) := fun (i : S32x2x128.Idx) =>
  if (i 0).val = c.val then k0_pay1 (F := F) i else stat m ρ (i 0 : Dev nD) (ix2 (i 1) (i 2) : S2x128.Idx)

/-! ## The slots of the landing buffer -/

/-- A slot and a block have as many elements. -/
theorem numel_row : S2x128.numel = S1x2x128.numel := by decide

/-- A position of slot `j` sits in the landing buffer's row `j`. -/
theorem slot_emb (j : Dev nD) (x : S2x128.Idx) : (slotM j).view.emb x = (ix3 j (x 0) (x 1) : S32x2x128.Idx) := by
  show (Rect.unit (s := S32x2x128) ![j.val, 0, 0] S1x2x128.size (slot_inb j)).emb (Shape.reshapeEquiv _ x) = _
  have hx : Shape.reshapeEquiv (numel_row) x = (ix3 (⟨0, Nat.one_pos⟩ : Fin 1) (x 0) (x 1) : S1x2x128.Idx) :=
    (congrArg _ (eq_ix2 x)).trans (reshapeEquiv_ix2_1ab _ (x 0) (x 1))
  refine (congrArg _ hx).trans (funext fun a => Fin.ext ?_)
  rw [Rect.emb_apply]
  fin_cases a
  · show j.val + 1 * 0 = j.val
    omega
  · show 0 + 1 * (x 0).val = (x 0).val
    omega
  · show 0 + 1 * (x 1).val = (x 1).val
    omega

/-- The elements of slot `j`. -/
def slotSet (j : Dev nD) : Finset S32x2x128.Idx := (slotM j).view.set

/-- An element is in slot `j` when its first coordinate is `j`. -/
theorem mem_slotSet (j : Dev nD) (i : S32x2x128.Idx) : i ∈ slotSet j ↔ (i 0).val = j.val := by
  unfold slotSet View.set
  constructor
  · intro h
    obtain ⟨x, -, rfl⟩ := Finset.mem_map.mp h
    rw [slot_emb]
  · intro h
    refine Finset.mem_map.mpr ⟨(ix2 (i 1) (i 2) : S2x128.Idx), Finset.mem_univ _, ?_⟩
    rw [slot_emb]
    have hj : (i 0 : Fin 32) = j := Fin.ext h
    rw [← hj]
    exact (eq_ix3 i).symm

/-- The slots cover the landing buffer. -/
theorem slots_cover : Finset.univ.biUnion slotSet = Finset.univ :=
  Finset.eq_univ_iff_forall.mpr fun i => Finset.mem_biUnion.mpr ⟨(i 0 : Fin 32), Finset.mem_univ _, (mem_slotSet _ i).mpr rfl⟩

/-- Different slots are disjoint. -/
theorem slots_disjoint (j j' : Dev nD) (h : j ≠ j') : Disjoint (slotSet j) (slotSet j') :=
  Finset.disjoint_left.mpr fun i hi hi' => h (Fin.ext (((mem_slotSet _ i).mp hi).symm.trans ((mem_slotSet _ i).mp hi')))

omit [FloatOps F] in
/-- The landing buffer is its 32 slots. -/
theorem comm_slots (c : Dev nD) (f : Buf (Elt F) ((c : Thread nD τ).loc cc0_scratch1)) :
    ((((c : Thread nD τ).loc cc0_scratch1) ↦{fullShare} f : sProp 𝕄))
      = bigSep Finset.univ fun j : Dev nD => (((c : Thread nD τ).loc cc0_scratch1) ↦[slotSet j]{fullShare} f : sProp 𝕄) := by
  refine Eq.trans ?_ (pointsTo_biUnion (ℓ := (c : Thread nD τ).loc cc0_scratch1) Finset.univ slotSet (fun j _ j' _ h => slots_disjoint j j' h))
  exact congrArg (fun I => (((c : Thread nD τ).loc cc0_scratch1) ↦[I]{fullShare} f : sProp 𝕄)) slots_cover.symm

/-- Slot `j` of device `c`'s landing buffer, at the buffer contents `f`. -/
def slotPts (c j : Dev nD) (f : Buf (Elt F) ((slotM j).view.loc (c : Thread nD τ))) : sProp 𝕄 :=
  (slotM j).view.loc (c : Thread nD τ) ↦[(slotM j).view.set]{fullShare} f
/-- Slot `j` of device `c`'s landing buffer, at some contents. -/
def slotSome (c j : Dev nD) : sProp 𝕄 := iprop(∃ f, slotPts c j f)
/-- Share `q` of device `c`'s statistics block. -/
def accPts (c : Dev nD) (q : PosShare TreeShare) : sProp 𝕄 :=
  (aM : Memref sig .tc .vmem S2x128 .f32).view.loc (c : Thread nD τ) ↦[(aM : Memref sig .tc .vmem S2x128 .f32).view.set]{q} stat m ρ c

omit [FloatOps F] in
/-- A slot can be handed over. -/
instance slotPts_storable (c j : Dev nD) (f) : BI.Storable (upEmb : UEmb _ 𝕄) (slotPts (F := F) c j f) := by unfold slotPts; infer_instance
omit [FloatOps F] in
/-- So can a slot with any contents. -/
instance slotSome_storable (c j : Dev nD) : BI.Storable (upEmb : UEmb _ 𝕄) (slotSome (F := F) c j) := by unfold slotSome; infer_instance
/-- So can a share of the statistics. -/
instance accPts_storable (c : Dev nD) (q : PosShare TreeShare) : BI.Storable (upEmb : UEmb _ 𝕄) (accPts (F := F) m ρ c q) := by unfold accPts; infer_instance

/-- A statistics block landed in its sender's slot, over whatever the buffer held, is the final contents there. -/
theorem landed_eq (c j : Dev nD) (h : j ≠ c) (fd : Buf (Elt F) ((slotM j).view.loc (c : Thread nD τ))) (i : S32x2x128.Idx) (hi : i ∈ slotSet j) :
    (slotM j).view.write (Elt F) fd ((aM : Memref sig .tc .vmem S2x128 .f32).view.read (Elt F) (stat m ρ j)) Finset.univ i = commFinal m ρ c i := by
  have hi' := (mem_slotSet j i).mp hi
  have he : i = (slotM j).view.emb (ix2 (i 1) (i 2) : S2x128.Idx) := by
    rw [slot_emb]
    have hj : (i 0 : Fin 32) = j := Fin.ext hi'
    rw [← hj]
    exact eq_ix3 i
  unfold commFinal
  rw [if_neg (fun h' => h (Fin.ext (hi'.symm.trans h')))]
  conv_lhs => rw [he]
  rw [View.write_emb_of_mem _ _ (Finset.mem_univ _)]
  have hj : (i 0 : Fin 32) = j := Fin.ext hi'
  rw [hj]
  exact congrFun (View.read_whole (Val := Elt F) cc0_scratch0 (stat m ρ j)) _

/-! ## The schedule -/

/-- Slot `j` of device `c` as landed. -/
def recvPay (c j : Dev nD) : sProp 𝕄 := slotPts c j (commFinal m ρ c)
/-- The share of the statistics block lent to send `k`. -/
def sendPay (c : Dev nD) (k : Fin 31) : sProp 𝕄 := accPts m ρ c (Transfers.shareTok fullShare 31 k)

/-- What a duty hands over, by the semaphore and its device. -/
def pay (c : Dev nD) (d : Fin 31) : CIx → sProp 𝕄
  | .inl _ => slotSome (tgt c d) c
  | .inr (.inl k) => sendPay m ρ c k
  | .inr (.inr j) => recvPay m ρ c j
/-- The duties of a device's semaphore. -/
def dut (c : Dev nD) : CIx → Finset (Fin 31)
  | .inl _ => Finset.univ
  | .inr (.inl _) => {0}
  | .inr (.inr j) => if (j : Dev nD) = c then ∅ else {0}
/-- What one duty at a cell is worth. -/
def amt : CIx → ℕ
  | .inl _ => 1
  | .inr _ => N

/-- The exchange's name of a semaphore, if it is one of the exchange's. -/
def cix : SemLoc sig → Option CIx := Function.partialInv csem
/-- The cell of a semaphore. -/
theorem cix_csem (i : CIx) : cix (csem i) = some i := Function.partialInv_left csem_injective i

/-- Every duty is worth something. -/
theorem amt_pos (i : CIx) : 0 < amt i := by
  rcases i with _ | i
  · exact Nat.one_pos
  · exact N_pos

/-- One round, round 0. -/
def exRd : Rounds.Schedule (GSem nD τ sig) (Fin 31) 𝕄 where
  duties g r := if r = 0 ∧ g.1.2 = .tc then (cix g.2).elim ∅ (dut g.1.1) else ∅
  unitless _ := False
  amount g _ _ := (cix g.2).elim 1 amt
  payload g _ d := (cix g.2).elim iprop(emp) (pay m ρ g.1.1 d)
  amount_pos g _ _ _ := by
    rcases cix g.2 with _ | i
    · exact Nat.one_pos
    · exact amt_pos i

/-- Every payload can be handed over. -/
instance exRd_payload_storable (g : GSem nD τ sig) (r : ℕ) (d : Fin 31) :
    BI.Storable (upEmb : UEmb _ 𝕄) ((exRd (F := F) m ρ).payload g r d) := by
  show BI.Storable upEmb ((cix g.2).elim iprop(emp) (pay m ρ g.1.1 d))
  rcases cix g.2 with _ | _ | k | j
  · show BI.Storable upEmb iprop(emp)
    infer_instance
  · show BI.Storable upEmb (slotSome (tgt g.1.1 d) g.1.1)
    infer_instance
  · show BI.Storable upEmb (accPts m ρ g.1.1 (Transfers.shareTok fullShare 31 k))
    infer_instance
  · show BI.Storable upEmb (slotPts g.1.1 j (commFinal m ρ g.1.1))
    infer_instance

section Sched
variable (c : Dev nD) (i : CIx)

/-- The duties at a cell. -/
theorem duties_eq : (exRd (F := F) m ρ).duties (kcell (c, i)) 0 = dut c i := by
  show (if 0 = 0 ∧ (c : Thread nD τ).2 = .tc then (cix (csem i)).elim ∅ (dut c) else ∅) = dut c i
  rw [if_pos ⟨rfl, rfl⟩, cix_csem]
  rfl
/-- There is one round. -/
theorem duties_later (g : GSem nD τ sig) : ∀ r, 1 ≤ r → (exRd (F := F) m ρ).duties g r = ∅ :=
  fun r hr => if_neg fun h => by omega
/-- Nothing lands in a device's own slot. -/
theorem duties_own : ∀ r, 0 ≤ r → (exRd (F := F) m ρ).duties (recvCell c c) r = ∅ := fun r _ => by
  rcases Nat.eq_zero_or_pos r with rfl | hr
  · exact (duties_eq m ρ c (rI c)).trans (if_pos rfl)
  · exact duties_later m ρ _ r hr
/-- The worth of a duty. -/
theorem amount_eq (d : Fin 31) : (exRd (F := F) m ρ).amount (kcell (c, i)) 0 d = amt i := by
  show (cix (csem i)).elim 1 amt = amt i
  rw [cix_csem]
  rfl
/-- What a duty hands over. -/
theorem payload_eq (d : Fin 31) : (exRd (F := F) m ρ).payload (kcell (c, i)) 0 d = pay m ρ c d i := by
  show (cix (csem i)).elim iprop(emp) (pay m ρ c d) = pay m ρ c d i
  rw [cix_csem]
  rfl
/-- What a cell takes in its round. -/
theorem expect_eq : (exRd (F := F) m ρ).expect (kcell (c, i)) 0 = (dut c i).card * amt i := by
  unfold Schedule.expect Schedule.amountOf
  rw [duties_eq, Finset.sum_congr rfl fun d _ => amount_eq m ρ c i d, Finset.sum_const, smul_eq_mul]
/-- A barrier takes thirty-one signals. -/
theorem expect_bar : (exRd (F := F) m ρ).expect (barCell c) 0 = 31 := (expect_eq m ρ c bI).trans (by
  show (Finset.univ : Finset (Fin 31)).card * 1 = 31
  rw [Finset.card_univ, Fintype.card_fin])
/-- A departure takes one block. -/
theorem expect_send (k : Fin 31) : (exRd (F := F) m ρ).expect (sendCell c k) 0 = N := (expect_eq m ρ c (sI k)).trans (Nat.one_mul _)
/-- A landing has one duty. -/
theorem dut_recv (j : Dev nD) (h : j ≠ c) : dut c (rI j) = {0} := if_neg h
/-- A landing takes one block. -/
theorem expect_recv (j : Dev nD) (h : j ≠ c) : (exRd (F := F) m ρ).expect (recvCell c j) 0 = N := (expect_eq m ρ c (rI j)).trans (by
  rw [dut_recv c j h]
  exact Nat.one_mul _)

/-- What a whole round hands over, no duty taken before. -/
theorem rest_eq : bigSep ((exRd (F := F) m ρ).duties (kcell (c, i)) 0 \ ∅) (fun d => (exRd (F := F) m ρ).payload (kcell (c, i)) 0 d)
    = bigSep (dut c i) fun d => pay m ρ c d i := by
  rw [Finset.sdiff_empty, duties_eq]
  exact bigSep_congr fun d _ => payload_eq m ρ c i d

end Sched

/-! ## Amounts owed at launch; levels -/

/-- The indices from `k` on. -/
def frm (k : ℕ) : Finset (Fin 31) := Finset.univ.filter fun i => k ≤ i.val
/-- The indices below `k`. -/
def upto (k : ℕ) : Finset (Fin 31) := Finset.univ.filter fun i => i.val < k

/-- At the start every place is left. -/
theorem frm_zero : frm 0 = Finset.univ := Finset.filter_true_of_mem fun _ _ => Nat.zero_le _
/-- At the end none is left. -/
theorem frm_last : frm 31 = ∅ := Finset.filter_false_of_mem fun i _ => Nat.not_le.mpr i.isLt
/-- At the start no place is done. -/
theorem upto_zero : upto 0 = ∅ := Finset.filter_false_of_mem fun _ _ => Nat.not_lt_zero _
/-- At the end all are done. -/
theorem upto_last : upto 31 = Finset.univ := Finset.filter_true_of_mem fun i _ => i.isLt
/-- One place is done at a time. -/
theorem frm_step (k : Fin 31) : frm k.val = insert k (frm (k.val + 1)) := by
  ext i
  simp only [frm, Finset.mem_filter, Finset.mem_univ, true_and, Finset.mem_insert, Fin.ext_iff]
  omega
/-- It is not left afterwards. -/
theorem not_mem_frm (k : Fin 31) : k ∉ frm (k.val + 1) := by
  simp only [frm, Finset.mem_filter, Finset.mem_univ, true_and]
  omega
/-- It is added to those done. -/
theorem upto_step (k : Fin 31) : upto (k.val + 1) = insert k (upto k.val) := by
  ext i
  simp only [upto, Finset.mem_filter, Finset.mem_univ, true_and, Finset.mem_insert, Fin.ext_iff]
  omega
/-- It was not done before. -/
theorem not_mem_upto (k : Fin 31) : k ∉ upto k.val := by
  simp only [upto, Finset.mem_filter, Finset.mem_univ, true_and]
  omega

/-- The landing credit device `c` owes for its sends from the `k`-th on. -/
def dueR (c : Dev nD) (k : ℕ) : CellTallies nD τ sig Unit := ∑ i ∈ frm k, tallyAt (recvCell (tgt c i) c) () N
/-- The barrier units device `c` owes from its `k`-th signal on. -/
def dueB (c : Dev nD) (k : ℕ) : CellTallies nD τ sig Unit := ∑ i ∈ frm k, tallyAt (barCell (tgt c i)) () 1
/-- What device `c` owes at launch. -/
def O₀ (c : Dev nD) : CellTallies nD τ sig Unit := dueR c 0 + dueB c 0

/-- A copy pays the landing at its target. -/
theorem dueR_step (c : Dev nD) (k : Fin 31) : dueR c k.val = dueR c (k.val + 1) + tallyAt (recvCell (tgt c k) c) () N := by
  unfold dueR
  rw [frm_step k, Finset.sum_insert (not_mem_frm k), add_comm]
/-- A signal pays the barrier at its target. -/
theorem dueB_step (c : Dev nD) (k : Fin 31) : dueB c k.val = dueB c (k.val + 1) + tallyAt (barCell (tgt c k)) () 1 := by
  unfold dueB
  rw [frm_step k, Finset.sum_insert (not_mem_frm k), add_comm]
/-- After the last copy no landing is owed. -/
theorem dueR_last (c : Dev nD) : dueR c 31 = 0 := by unfold dueR; rw [frm_last, Finset.sum_empty]
/-- After the last signal no barrier is owed. -/
theorem dueB_last (c : Dev nD) : dueB c 31 = 0 := by unfold dueB; rw [frm_last, Finset.sum_empty]

/-- A sum of tallies is positive only at one of their cells. -/
theorem sum_tally_pos {s : Finset (Fin 31)} {T : Fin 31 → GSem nD τ sig} {n : ℕ} {g : GSem nD τ sig} {u : Unit}
    (h : 0 < (∑ i ∈ s, tallyAt (T i) () n : CellTallies nD τ sig Unit) g u) : ∃ i, g = T i := by
  by_contra hn
  refine absurd h (Nat.not_lt.mpr (Nat.le_of_eq ?_))
  rw [Finset.sum_apply, Finsupp.finsetSum_apply]
  refine Finset.sum_eq_zero fun i _ => ?_
  rw [tallyAt_apply, if_neg fun h' => hn ⟨i, h'.1⟩]

/-- The labels of a cell. -/
def L (g : GSem nD τ sig) : Finset Unit := if g.1.2 = .tc then {()} else ∅
/-- Landing cells above barrier cells, everything else at the bottom. -/
def lv (g : GSem nD τ sig) (_ : Unit) : ℕ := match cix g.2 with
  | some (.inl _) => 1
  | some (.inr (.inr _)) => 2
  | _ => 0

/-- A barrier's level. -/
theorem lv_bar (c : Dev nD) (u : Unit) : lv (barCell c) u = 1 := by unfold lv; rw [show cix (barCell c).2 = some bI from cix_csem bI]
/-- A landing's level. -/
theorem lv_recv (c j : Dev nD) (u : Unit) : lv (recvCell c j) u = 2 := by unfold lv; rw [show cix (recvCell c j).2 = some (rI j) from cix_csem (rI j)]
/-- Every other semaphore lies below. -/
theorem lv_none (c : Dev nD) (sm : SemLoc sig) (h : ∀ i, csem i ≠ sm) (u : Unit) : lv ((c : Thread nD τ), sm) u = 0 := by
  unfold lv
  rw [show cix ((c : Thread nD τ), sm).2 = none from dif_neg fun ⟨i, hi⟩ => h i hi]

/-- No labels off the TensorCore. -/
theorem L_of_ne (g : GSem nD τ sig) (h : g.1.2 ≠ .tc) : L g = ∅ := if_neg h
/-- One label on it. -/
theorem L_tc (c : Dev nD) (sm : SemLoc sig) : L ((c : Thread nD τ), sm) = {()} := if_pos rfl

/-- What a device owes at the start: landings and barriers at its targets. -/
theorem O₀_pos {c : Dev nD} {g : GSem nD τ sig} {u : Unit} (h : 0 < O₀ c g u) : (∃ i, g = recvCell (tgt c i) c) ∨ ∃ i, g = barCell (tgt c i) := by
  unfold O₀ at h
  rw [Pi.add_apply, Finsupp.add_apply] at h
  rcases Nat.eq_zero_or_pos (dueR c 0 g u) with h0 | h0
  · rw [h0, Nat.zero_add] at h
    exact Or.inr (sum_tally_pos h)
  · exact Or.inl (sum_tally_pos h0)

/-- A staging semaphore may be waited on whatever the device owes: every cell it owes is above. -/
theorem mayWait_stage (c : Dev nD) (q : DmaSem sig) (hq : ∀ i, csem i ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨i, rfl⟩ <;> exact Finset.mem_singleton_self _)
      (fun p hp => by rw [Finset.mem_singleton.mp hp, lv_none c _ hq])
      (fun g u hg => by
        rcases O₀_pos hg with ⟨i, rfl⟩ | ⟨i, rfl⟩
        · rw [lv_recv]; decide
        · rw [lv_bar]; decide)
  · rw [MayWait_zero]; iintro -; iempintro

/-- At its barrier wait a device owes landing credit only, above the barrier. -/
theorem mayWait_bar (c : Dev nD) : (levAts L lv : sProp 𝕄) ⊢ MayWait (c : Thread nD τ) (.reg bSem) () (dueR c 0) :=
  MayOwe.of_cut (L := L) (lev := lv) 1 (fun p hp => by rw [Finset.mem_singleton.mp hp, L_tc]; exact Finset.mem_singleton_self _)
    (fun g u hg => by
      obtain ⟨i, rfl⟩ := sum_tally_pos hg
      rw [L_tc]; exact Finset.mem_singleton_self _)
    (fun p hp => by rw [Finset.mem_singleton.mp hp, lv_bar])
    (fun g u hg => by
      obtain ⟨i, rfl⟩ := sum_tally_pos hg
      rw [lv_recv]; decide)

end Cert.Exchange
end
-- ==== Proof.Steps.lean ====
/-
# One effect of the exchange at a time

Per phase of the body — the signals, the barrier wait, the sends, the waits for the landings, the waits for the sends —
the resources a device holds before its `k`-th effect, and that the effect takes them to those before the next.
-/
module

public import proofs.«01_k».proof.Proof.Schedule

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No loop of the program needs a variant. -/
abbrev 𝒱₀ : Variants := Variants.none

/-- The weakest precondition of a piece of device `c`'s body. -/
abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules
variable {c : Dev nD} {α β : Type}

omit [FloatOps F] in
/-- One piece after another. -/
theorem seq [FloatOps F] {A : sProp 𝕄} {B : α → sProp 𝕄} {Q : β → sProp 𝕄} {p : Prog (TpuEff nD τ sig (Elt F) Λ₀ .tc) α}
    {k : α → Prog (TpuEff nD τ sig (Elt F) Λ₀ .tc) β} (h : A ⊢ wpB c p B) (h' : ∀ v, B v ⊢ wpB c (k v) Q) : A ⊢ wpB c (p >>= k) Q := by
  unfold wpB
  rw [wp_bind]
  exact h.trans (wp_mono _ _ _ h')

/-- What a piece does not touch stays. -/
theorem framed {A R : sProp 𝕄} {B : α → sProp 𝕄} {p : Prog (TpuEff nD τ sig (Elt F) Λ₀ .tc) α} (h : A ⊢ wpB c p B) :
    iprop(A ∗ R) ⊢ wpB c p fun v => iprop(B v ∗ R) :=
  (sep_mono_left h).trans (wp_frame_r _ _ _)

/-- A piece that ends. -/
theorem done {A : sProp 𝕄} {Q : α → sProp 𝕄} {v : α} (h : A ⊢ Q v) : A ⊢ wpB c (pure v) Q := by
  unfold wpB
  rw [wp_pure]
  exact h.trans fupd_intro

/-- A family over one index more. -/
theorem bigSep_ins {I : Type} [DecidableEq I] {s : Finset I} {i : I} (h : i ∉ s) (Φ : I → sProp 𝕄) :
    bigSep (insert i s) Φ = iprop(Φ i ∗ bigSep s Φ) := bigSep_insert h

end Rules

variable (K : Dev nD × CIx → ℕ) (c : Dev nD)

/-- Every cell's invariant, at the names `K`, and that every cell's round 0 has been reached. -/
def records : sProp 𝕄 :=
  iprop((bigSep Finset.univ fun x : Dev nD × CIx => cellInv ER (exRd m ρ) (K x) (kcell x))
    ∗ bigSep Finset.univ fun x : Dev nD × CIx => reached ER (kcell x) 0)

/-- The records can be used any number of times. -/
instance records_persistent : BI.Persistent (records m ρ K) := by unfold records; infer_instance

/-- The invariant of a cell. -/
theorem inv_at (x : Dev nD × CIx) : records m ρ K ⊢ cellInv ER (exRd m ρ) (K x) (kcell x) := by
  unfold records
  iintro ⟨H, -⟩
  iapply (show (bigSep Finset.univ fun x : Dev nD × CIx => cellInv ER (exRd m ρ) (K x) (kcell x)) ⊢ cellInv ER (exRd m ρ) (K x) (kcell x) from bigSep_elim (Finset.mem_univ x)); iexact H
/-- The round of a cell is reached. -/
theorem reached_at (x : Dev nD × CIx) : records m ρ K ⊢ reached ER (kcell x) 0 := by
  unfold records
  iintro ⟨-, H⟩
  iapply (show (bigSep Finset.univ fun x : Dev nD × CIx => (reached ER (kcell x) 0 : sProp 𝕄)) ⊢ reached ER (kcell x) 0 from bigSep_elim (Finset.mem_univ x)); iexact H

/-! ## What a whole round hands over -/

/-- What a barrier hands over. -/
theorem rest_bar : bigSep ((exRd m ρ).duties (barCell c) 0 \ ∅) (fun d => (exRd m ρ).payload (barCell c) 0 d) = bigSep Finset.univ fun i => slotSome (tgt c i) c :=
  rest_eq m ρ c bI
/-- What a departure hands over. -/
theorem rest_send (k : Fin 31) : bigSep ((exRd m ρ).duties (sendCell c k) 0 \ ∅) (fun d => (exRd m ρ).payload (sendCell c k) 0 d) = sendPay m ρ c k :=
  (rest_eq m ρ c (sI k)).trans (show bigSep {0} (fun d => pay m ρ c d (sI k)) = sendPay m ρ c k from bigSep_singleton)
/-- What a landing hands over. -/
theorem rest_recv (j : Dev nD) (h : j ≠ c) : bigSep ((exRd m ρ).duties (recvCell c j) 0 \ ∅) (fun d => (exRd m ρ).payload (recvCell c j) 0 d) = recvPay m ρ c j :=
  (rest_eq m ρ c (rI j)).trans (by
    rw [dut_recv c j h]
    exact show bigSep {0} (fun d => pay m ρ c d (rI j)) = recvPay m ρ c j from bigSep_singleton)

/-- Every signal is a duty at its barrier. -/
theorem mem_bar (d : Fin 31) : d ∈ (exRd (F := F) m ρ).duties (barCell c) 0 := Eq.mpr (congrArg (d ∈ ·) (duties_eq m ρ c bI)) (Finset.mem_univ d)
/-- A copy is a duty at its departure. -/
theorem mem_send (k : Fin 31) : (0 : Fin 31) ∈ (exRd (F := F) m ρ).duties (sendCell c k) 0 :=
  Eq.mpr (congrArg ((0 : Fin 31) ∈ ·) (duties_eq m ρ c (sI k))) (Finset.mem_singleton_self 0)
/-- A copy is a duty at its landing. -/
theorem mem_recv (j : Dev nD) (h : j ≠ c) : (0 : Fin 31) ∈ (exRd (F := F) m ρ).duties (recvCell c j) 0 :=
  Eq.mpr (congrArg ((0 : Fin 31) ∈ ·) ((duties_eq m ρ c (rI j)).trans (dut_recv c j h))) (Finset.mem_singleton_self 0)

/-! ## The signals -/

/-- Before signal `k`: the units still owed, their duty tokens, and the slots they hand over. -/
def SigSt (k : ℕ) : sProp 𝕄 :=
  iprop(records m ρ K ∗ (∃ W, owes (c : Thread nD τ) (dueR c 0 + dueB c k) W)
    ∗ bigSep (frm k) fun i => iprop(dutyTok ER (barCell (tgt c i)) 0 i.rev ∗ slotSome c (tgt c i)))

/-- Signal `k` hands the `k`-th device after `c` its slot of `c`'s landing buffer. -/
theorem sig_step (k : Fin 31) (n : Dev nD) (hn : n = tgt c k) :
    SigSt m ρ K c k.val ⊢ wpB c (Prog.lift (.semSignal (n : Thread nD τ) bSem 1)) fun _ => SigSt m ρ K c (k.val + 1) := by
  subst hn
  unfold SigSt
  rw [frm_step k, bigSep_ins (not_mem_frm k)]
  iintro ⟨#HR, ⟨%W, HO⟩, ⟨Htok, Hslot⟩, Hrest⟩
  rw [dueB_step c k, ← add_assoc]
  iapply (Rounds.wp_signal 𝒱₀ ER (exRd m ρ) (c : Thread nD τ) none (dst := (tgt c k : Thread nD τ)) (κ := K (tgt c k, bI))
      (d := k.rev) (mem_bar m ρ (tgt c k) k.rev)
      (amount_eq m ρ (tgt c k) bI k.rev) () (dueR c 0 + dueB c (k.val + 1)) rfl) $$ [HO Htok Hslot]
  · isplitr; · iapply (inv_at m ρ K (tgt c k, bI)); iexact HR
    isplitl [HO]; · iexact HO
    isplitl [Htok]; · iexact Htok
    isplitl [Hslot]
    · iapply (Entails.of_eq (show slotSome c (tgt c k) = (exRd m ρ).payload (barCell (tgt c k)) 0 k.rev from
        ((payload_eq m ρ (tgt c k) bI k.rev).trans (by show slotSome (tgt (tgt c k) k.rev) (tgt c k) = _; rw [tgt_tgt_rev])).symm)); iexact Hslot
    iapply (reached_at m ρ K (tgt c k, bI)); iexact HR
  iintro HO
  rw [wp_ret]
  imodintro
  isplitr; · iexact HR
  isplitl [HO]; · iexists W; iexact HO
  iexact Hrest

/-! ## The barrier wait -/

/-- The wait for 31 units brings the device its slot on every other device, and closes its barrier cell. -/
theorem bar_wait :
    iprop((records m ρ K ∗ levAts L lv) ∗ (∃ W, owes (c : Thread nD τ) (dueR c 0) W) ∗ cred (tallyAt (barCell c) () 31) ∗ atPos ER (barCell c) 0 ∅ 0)
      ⊢ wpB c (Prog.lift (.semWait bSem 31)) fun _ =>
        iprop((∃ W, owes (c : Thread nD τ) (dueR c 0) W) ∗ semVal (barCell c) 0 ∗ bigSep Finset.univ fun i => slotSome (tgt c i) c) := by
  iintro ⟨⟨#HR, #Hlev⟩, ⟨%W, HO⟩, Hc, Hat⟩
  iapply (Rounds.wp_wait_rest_token 𝒱₀ ER (exRd m ρ) (c : Thread nD τ) none (κ := K (c, bI))
      (wpE_semWait_eq 𝒱₀ (c : Thread nD τ) none Set.univ) (Set.mem_univ _) () (O := dueR c 0) (W := W) (R := 0) (m := 0) (T := ∅)
      (by rw [expect_bar])) $$ [Hc HO Hat]
  · isplitr; · iapply (inv_at m ρ K (c, bI)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (exRd m ρ) (Set.mem_univ (K (c, bI))) (fun h => h) (R := 0 + 1) (duties_later m ρ (barCell c))) $$ [Hat] with Hz
  · isplitr; · iapply (inv_at m ρ K (c, bI)); iexact HR
    iexact Hat
  rw [wp_ret]
  imodintro
  isplitl [HO]; · iexists _; iexact HO
  isplitl [Hz]; · iexact Hz
  iexact Hp

/-! ## The sends -/

/-- Before send `k`: the landing credit still owed; per send to come its slot, its share of the statistics block and its two duty tokens; per send under way its credit. -/
def SendSt (k : ℕ) : sProp 𝕄 :=
  iprop(records m ρ K ∗ (∃ W, owes (c : Thread nD τ) (dueR c k) W)
    ∗ (bigSep (frm k) fun i => iprop(slotSome (tgt c i) c ∗ sendPay m ρ c i ∗ dutyTok ER (sendCell c i) 0 0 ∗ dutyTok ER (recvCell (tgt c i) c) 0 0))
    ∗ bigSep (upto k) fun i => cred (tallyAt (sendCell c i) () N))

/-- Send `k` lends its share of the statistics block and its slot on the `k`-th device after `c` to the transfer. -/
theorem send_step (k : Fin 31) (n : Dev nD) (hn : n = tgt c k) (dst : Memref sig .tc .vmem S2x128 .f32) (hd : dst = slotM c)
    (sS rS : DmaSem sig) (hsS : sS = sSem k) (hrS : rS = rSem c)
    {hsc : (dst : Memref sig (Dev.tc n : Thread nD τ).2.kind .vmem S2x128 .f32).view.ref.isScScratch = false}
    {hsrc : (aM : Memref sig .tc .vmem S2x128 .f32).view.WordExact} {hdst : dst.view.WordExact}
    {hsem : DmaTarget.Typed .vmem (.dma rS) (.remote (Dev.tc n : Thread nD τ) dst (.dma sS) hsc)} :
    SendSt m ρ K c k.val ⊢ wpB c (Prog.lift (.enqueueDma aM (.remote (Dev.tc n : Thread nD τ) dst (.dma sS) hsc) (.dma rS) hsrc hdst hsem))
      fun _ => SendSt m ρ K c (k.val + 1) := by
  subst hn hd hsS hrS
  unfold SendSt
  rw [frm_step k, bigSep_ins (not_mem_frm k), upto_step k, bigSep_ins (not_mem_upto k)]
  unfold slotSome sendPay accPts slotPts
  iintro ⟨#HR, ⟨%W, HO⟩, ⟨⟨⟨%fd, Hd⟩, Hs, HtS, HtR⟩, Hrest⟩, Hcr⟩
  iapply (Rounds.wp_send_pointsTo 𝒱₀ ER (exRd m ρ) (c : Thread nD τ) none (κ₁ := K (c, sI k)) (κ₂ := K (tgt c k, rI c))
    (r₁ := 0) (r₂ := 0) (d₁ := 0) (d₂ := 0) (fd := fd)
    (mem_send m ρ c k)
    (mem_recv m ρ (tgt c k) c (tgt_ne c k).symm)
    () () N rfl (amount_eq m ρ c (sI k) 0) (amount_eq m ρ (tgt c k) (rI c) 0) (dueR c (k.val + 1)) (dueR_step c k) (W := W)
    (Entails.of_eq (payload_eq m ρ c (sI k) 0).symm)
    ((Entails.of_eq (pointsTo_congr fun i hi => landed_eq m ρ (tgt c k) c (tgt_ne c k).symm fd i hi)).trans
      (Entails.of_eq (payload_eq m ρ (tgt c k) (rI c) 0).symm))) $$ [HO Hd Hs HtS HtR]
  · isplitr; · iapply (inv_at m ρ K (c, sI k)); iexact HR
    isplitr; · iapply (inv_at m ρ K (tgt c k, rI c)); iexact HR
    isplitl [Hs]; · iexact Hs
    isplitl [Hd]; · iexact Hd
    isplitl [HO]; · iexact HO
    isplitl [HtS]; · iexact HtS
    isplitr; · iapply (reached_at m ρ K (c, sI k)); iexact HR
    isplitl [HtR]; · iexact HtR
    iapply (reached_at m ρ K (tgt c k, rI c)); iexact HR
  iintro ⟨Hc, HO⟩
  rw [wp_ret]
  imodintro
  isplitr; · iexact HR
  isplitl [HO]; · iexists W; iexact HO
  isplitl [Hrest]; · iexact Hrest
  isplitl [Hc]; · iexact Hc
  iexact Hcr

/-! ## The waits for the landings -/

/-- The other devices from `j` on. -/
def othFrom (j : ℕ) : Finset (Dev nD) := Finset.univ.filter fun i => j ≤ i.val ∧ i ≠ c
/-- The other devices below `j`. -/
def othUpto (j : ℕ) : Finset (Dev nD) := Finset.univ.filter fun i => i.val < j ∧ i ≠ c

/-- At the start all other devices' slots are left. -/
theorem othFrom_zero : othFrom c 0 = Finset.univ.erase c := by
  ext i
  simp only [othFrom, Finset.mem_filter, Finset.mem_univ, true_and, Finset.mem_erase, Nat.zero_le, and_true]
/-- At the end none is. -/
theorem othFrom_last : othFrom c 32 = ∅ := Finset.filter_false_of_mem fun i _ h => Nat.not_le.mpr i.isLt h.1
/-- At the start none has landed. -/
theorem othUpto_zero : othUpto c 0 = ∅ := Finset.filter_false_of_mem fun _ _ h => Nat.not_lt_zero _ h.1
/-- At the end all have. -/
theorem othUpto_last : othUpto c 32 = Finset.univ.erase c := by
  ext i
  have hi := i.isLt
  change i.val < 32 at hi
  simp only [othUpto, Finset.mem_filter, Finset.mem_univ, true_and, Finset.mem_erase, and_true, hi]
/-- One slot is waited for at a time. -/
theorem othFrom_step (j : Dev nD) (h : j ≠ c) : othFrom c j.val = insert j (othFrom c (j.val + 1)) := by
  ext i
  simp only [othFrom, Finset.mem_filter, Finset.mem_univ, true_and, Finset.mem_insert]
  by_cases hi : i = j
  · subst hi; simp only [h, le_refl, ne_eq, not_false_eq_true, and_self, true_or]
  · have : i.val ≠ j.val := fun e => hi (Fin.ext e)
    have h2 : j.val ≤ i.val ↔ j.val + 1 ≤ i.val := by omega
    simp only [hi, false_or, h2]
/-- It is not left afterwards. -/
theorem not_mem_othFrom (j : Dev nD) : j ∉ othFrom c (j.val + 1) := by
  simp only [othFrom, Finset.mem_filter, Finset.mem_univ, true_and]
  omega
/-- It is added to those landed. -/
theorem othUpto_step (j : Dev nD) (h : j ≠ c) : othUpto c (j.val + 1) = insert j (othUpto c j.val) := by
  ext i
  simp only [othUpto, Finset.mem_filter, Finset.mem_univ, true_and, Finset.mem_insert]
  by_cases hi : i = j
  · subst hi; simp only [h, Nat.lt_succ_self, ne_eq, not_false_eq_true, and_self, true_or]
  · have : i.val ≠ j.val := fun e => hi (Fin.ext e)
    have h2 : i.val < j.val + 1 ↔ i.val < j.val := by omega
    simp only [hi, false_or, h2]
/-- It had not landed before. -/
theorem not_mem_othUpto (j : Dev nD) : j ∉ othUpto c j.val := by
  simp only [othUpto, Finset.mem_filter, Finset.mem_univ, true_and]
  omega
/-- The own slot is never left. -/
theorem othFrom_self : othFrom c (c.val + 1) = othFrom c c.val := by
  ext i
  simp only [othFrom, Finset.mem_filter, Finset.mem_univ, true_and]
  refine and_congr_left fun hi => ?_
  have : i.val ≠ c.val := fun e => hi (Fin.ext e)
  omega
/-- The own slot never lands. -/
theorem othUpto_self : othUpto c (c.val + 1) = othUpto c c.val := by
  ext i
  simp only [othUpto, Finset.mem_filter, Finset.mem_univ, true_and]
  refine and_congr_left fun hi => ?_
  have : i.val ≠ c.val := fun e => hi (Fin.ext e)
  omega

/-- Before the wait for device `j`'s block: the credit and position of each landing to come; the slot and the closed cell of each landed block. -/
def RecvSt (j : ℕ) : sProp 𝕄 :=
  iprop(records m ρ K ∗ (∃ W, owes (c : Thread nD τ) 0 W)
    ∗ (bigSep (othFrom c j) fun i => iprop(cred (tallyAt (recvCell c i) () N) ∗ atPos ER (recvCell c i) 0 ∅ 0))
    ∗ bigSep (othUpto c j) fun i => iprop(recvPay m ρ c i ∗ semVal (recvCell c i) 0))

/-- The wait for another device's block brings its slot. -/
theorem recv_wait (j : Dev nD) (h : j ≠ c) (rS : DmaSem sig) (hrS : rS = rSem j) (sr dst : Memref sig .tc .vmem S2x128 .f32)
    {hw : sr.view.WordExact} {hw' : dst.view.WordExact} :
    RecvSt m ρ K c j.val ⊢ wpB c (Prog.lift (.waitDma2 rS sr dst hw hw')) fun _ => RecvSt m ρ K c (j.val + 1) := by
  subst hrS
  unfold RecvSt
  rw [othFrom_step c j h, bigSep_ins (not_mem_othFrom c j), othUpto_step c j h, bigSep_ins (not_mem_othUpto c j)]
  iintro ⟨#HR, ⟨%W, HO⟩, ⟨⟨Hc, Hat⟩, Hrest⟩, Hdone⟩
  iapply (Rounds.wp_wait_rest_token 𝒱₀ ER (exRd m ρ) (c : Thread nD τ) none (κ := K (c, rI j))
      (wpE_waitDma2_eq 𝒱₀ (c : Thread nD τ) none Set.univ) (Set.mem_univ _) () (O := 0) (W := W) (R := 0) (m := 0) (T := ∅)
      (by rw [Nat.zero_add, expect_recv m ρ c j h])) $$ [Hc HO Hat]
  · isplitr; · iapply (inv_at m ρ K (c, rI j)); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c j h)) $$ Hpay
  imod (Rounds.cell_close ER (exRd m ρ) (Set.mem_univ (K (c, rI j))) (fun h => h) (R := 0 + 1) (duties_later m ρ (recvCell c j))) $$ [Hat] with Hz
  · isplitr; · iapply (inv_at m ρ K (c, rI j)); iexact HR
    iexact Hat
  rw [wp_ret]
  imodintro
  isplitr; · iexact HR
  isplitl [HO]; · iexists _; iexact HO
  isplitl [Hrest]; · iexact Hrest
  isplitl [Hp Hz]
  · isplitl [Hp]; · iexact Hp
    iexact Hz
  iexact Hdone

/-- The own slot is passed over. -/
theorem recv_self : RecvSt m ρ K c c.val ⊢ RecvSt m ρ K c (c.val + 1) := by
  unfold RecvSt
  rw [othFrom_self, othUpto_self]

/-- The device's own index, as the program computes it. -/
abbrev me : BitVec 32 := Scalar.remsi (Scalar.divsi (Dev.word c) 1#32) 32#32

/-- The program's test for device `j` holds when `j` is another device. -/
theorem test_iff (j : Dev nD) : Scalar.cmpi .ne (Scalar.extui (Scalar.cmpi .ne (me c) (BitVec.ofNat 32 j.val)) : BitVec 32) 0#32 = 1#1 ↔ j ≠ c := by
  revert c j
  decide +kernel

/-- The guarded wait for device `j`'s block. -/
theorem recv_step (j : Dev nD) (w : BitVec 32) (hw0 : w = BitVec.ofNat 32 j.val) (rS : DmaSem sig) (hrS : rS = rSem j) (sr dst : Memref sig .tc .vmem S2x128 .f32)
    {hw : sr.view.WordExact} {hw' : dst.view.WordExact} {α : Type} {q : Prog (TpuEff nD τ sig (Elt F) Λ₀ .tc) α} {Q : α → sProp 𝕄} {R : sProp 𝕄}
    (hq : iprop(RecvSt m ρ K c (j.val + 1) ∗ R) ⊢ wpB c q Q) :
    iprop(RecvSt m ρ K c j.val ∗ R) ⊢ wpB c (if h : Scalar.cmpi .ne (Scalar.extui (Scalar.cmpi .ne (me c) w) : BitVec 32) 0#32 = 1#1 then
        Prog.lift (.waitDma2 rS sr dst hw hw') >>= fun _ => q else q) Q := by
  subst hw0
  by_cases h : j = c
  · rw [dif_neg (fun h' => (test_iff c j).mp h' h)]
    subst h
    exact (sep_mono_left (recv_self m ρ K j)).trans hq
  · rw [dif_pos ((test_iff c j).mpr h)]
    exact seq (framed (recv_wait m ρ K c j h rS hrS sr dst)) fun _ => hq

/-! ## The waits for the sends -/

/-- Before the wait for send `k`: the credit and position of each send to come; the share and the closed cell of each one waited for. -/
def WaitSt (k : ℕ) : sProp 𝕄 :=
  iprop(records m ρ K ∗ (∃ W, owes (c : Thread nD τ) 0 W)
    ∗ (bigSep (frm k) fun i => iprop(cred (tallyAt (sendCell c i) () N) ∗ atPos ER (sendCell c i) 0 ∅ 0))
    ∗ bigSep (upto k) fun i => iprop(sendPay m ρ c i ∗ semVal (sendCell c i) 0))

/-- The wait for send `k` brings its share of the statistics block back. -/
theorem wait_step (k : Fin 31) (sS : DmaSem sig) (hsS : sS = sSem k) (sr dst : Memref sig .tc .vmem S2x128 .f32)
    {hw : sr.view.WordExact} {hw' : dst.view.WordExact} :
    WaitSt m ρ K c k.val ⊢ wpB c (Prog.lift (.waitDma2 sS sr dst hw hw')) fun _ => WaitSt m ρ K c (k.val + 1) := by
  subst hsS
  unfold WaitSt
  rw [frm_step k, bigSep_ins (not_mem_frm k), upto_step k, bigSep_ins (not_mem_upto k)]
  iintro ⟨#HR, ⟨%W, HO⟩, ⟨⟨Hc, Hat⟩, Hrest⟩, Hdone⟩
  iapply (Rounds.wp_wait_rest_token 𝒱₀ ER (exRd m ρ) (c : Thread nD τ) none (κ := K (c, sI k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m ρ K (c, sI k)); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c k)) $$ Hpay
  imod (Rounds.cell_close ER (exRd m ρ) (Set.mem_univ (K (c, sI k))) (fun h => h) (R := 0 + 1) (duties_later m ρ (sendCell c k))) $$ [Hat] with Hz
  · isplitr; · iapply (inv_at m ρ K (c, sI k)); iexact HR
    iexact Hat
  rw [wp_ret]
  imodintro
  isplitr; · iexact HR
  isplitl [HO]; · iexists _; iexact HO
  isplitl [Hrest]; · iexact Hrest
  isplitl [Hp Hz]
  · isplitl [Hp]; · iexact Hp
    iexact Hz
  iexact Hdone

end Cert.Exchange
end
-- ==== Proof.Body.lean ====
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

/-! ## Loads and stores of whole buffers -/

section
variable {α β : Type}

/-- A triple followed by the rest of the program, for use inside a proof about the rest. -/
theorem step_then {A : sProp 𝕄} {B : α → sProp 𝕄} {Q : β → sProp 𝕄} {p : Prog (TpuEff nD τ sig (Elt F) Λ₀ .tc) α}
    {k : α → Prog (TpuEff nD τ sig (Elt F) Λ₀ .tc) β} (h : A ⊢ wpB c p B) :
    A ⊢ iprop((∀ v, B v -∗ wpB c (k v) Q) -∗ wpB c (p >>= k) Q) := by
  iintro HA Hk
  unfold wpB
  rw [wp_bind]
  iapply (wp_wand _ _) $$ [HA]
  · iapply h $$ HA
  · iexact Hk

/-- Reading the device's own number. -/
theorem dev_then {A : sProp 𝕄} {Q : β → sProp 𝕄} {k : Dev nD → Prog (TpuEff nD τ sig (Elt F) Λ₀ .tc) β}
    (h : A ⊢ wpB c (k c) Q) : A ⊢ wpB c (Prog.lift .deviceId >>= k) Q := by
  unfold wpB at *
  simp only [Prog.lift, Prog.bind_op, Prog.bind_ret, wp_deviceId]
  exact h

end

/-- The whole of buffer `b` of device `c`, at share `q` and contents `f`. -/
abbrev bufPts (b : Ref sig .tc) (q : PosShare TreeShare) (f : b.ty.Contents (Elt F)) : sProp 𝕄 :=
  ((c : Thread nD τ).loc b) ↦{q} (f : Buf (Elt F) ((c : Thread nD τ).loc b))

/-- Loading a buffer yields what is read of its contents. -/
theorem load_whole {s : Shape} (M : Memref sig .tc .vmem s .f32) (q : PosShare TreeShare) (f : Buf (Elt F) (M.view.loc (c : Thread nD τ)))
    (r : LoadRect s) (g : r.shape.Idx → Elt F .f32) (hg : M.view.readAt (Elt F) r f = g) {hl : M.view.LoadsAt r} :
    ((M.view.loc (c : Thread nD τ) ↦{q} f : sProp 𝕄)) ⊢ wpB c (Prog.lift (.load M r hl))
      fun v => iprop(⌜v = g⌝ ∗ M.view.loc (c : Thread nD τ) ↦{q} f) := by
  unfold wpB
  iintro H
  simp only [Prog.lift]
  iapply (wp_load 𝒱₀ (c : Thread nD τ) none Set.univ (m := M) (Finset.subset_univ _)) $$ H; iintro H
  rw [wp_ret, hg]
  imodintro
  isplitr
  · ipureintro; rfl
  · iexact H

/-- Storing a buffer leaves what was written. -/
theorem store_whole {s : Shape} (M : Memref sig .tc .vmem s .f32) (r : Rect s) (f f' : Buf (Elt F) (M.view.loc (c : Thread nD τ)))
    (w : r.shape.Idx → Elt F .f32) (hw : (M.access r).write (Elt F) f w Finset.univ = f') {hx hm} :
    ((M.view.loc (c : Thread nD τ) ↦{fullShare} f : sProp 𝕄)) ⊢ wpB c (Prog.lift (.store M r w Finset.univ hx hm))
      fun _ => iprop(M.view.loc (c : Thread nD τ) ↦{fullShare} f') := by
  subst hw
  unfold wpB
  simp only [Prog.lift]
  iintro H
  iapply (wp_store 𝒱₀ (c : Thread nD τ) none Set.univ (m := M) (r := r) (Mk := Finset.univ) (Finset.subset_univ _)) $$ H; iintro H
  rw [wp_ret]
  imodintro
  iexact H

/-- The origin of two axes. -/
theorem zero2 : (![0, 0] : Fin 2 → ℕ) = fun _ => 0 := by funext a; fin_cases a <;> rfl
/-- The origin of three axes. -/
theorem zero3 : (![0, 0, 0] : Fin 3 → ℕ) = fun _ => 0 := by funext a; fin_cases a <;> rfl
/-- The origin of four axes. -/
theorem zero4 : (![0, 0, 0, 0] : Fin 4 → ℕ) = fun _ => 0 := by funext a; fin_cases a <;> rfl

/-- A share of the statistics block is a share of its whole buffer. -/
theorem accPts_eq (q : PosShare TreeShare) : accPts m ρ c q = bufPts c cc0_scratch0 q (stat m ρ c) := by
  unfold accPts bufPts
  rw [View.set_whole]

/-! ## Splitting and joining the landing buffer -/

/-- The whole landing buffer is its thirty-two slots. -/
theorem comm_eq (f : (cc0_scratch1 : Ref sig .tc).ty.Contents (Elt F)) :
    bufPts c cc0_scratch1 fullShare f = bigSep Finset.univ fun j : Dev nD => slotPts (F := F) c j f := by
  unfold bufPts
  rw [comm_slots]
  rfl

/-- Device `c`'s own slot ends as it starts: zeros. -/
theorem own_slot : slotPts (F := F) c c (k0_pay1 (F := F)) = slotPts c c (commFinal m ρ c) := by
  unfold slotPts
  refine pointsTo_congr fun i hi => ?_
  have h : (i 0).val = c.val := (mem_slotSet c i).mp hi
  show k0_pay1 i = commFinal m ρ c i
  unfold commFinal
  rw [if_pos h]

/-- After the zeros are stored the landing buffer is the own slot and the slots handed out. -/
theorem comm_out : bufPts c cc0_scratch1 fullShare (k0_pay1 (F := F))
    ⊢ iprop(slotPts c c (commFinal m ρ c) ∗ bigSep Finset.univ fun i : Fin 31 => slotSome (F := F) c (tgt c i)) := by
  rw [comm_eq, bigSep_univ_at _ c, own_slot m ρ c]
  refine sep_mono_right ?_
  rw [← tgt_cover c, bigSep_map]
  exact bigSep_mono fun i _ => exists_intro (Φ := fun f => slotPts (F := F) c (tgt c i) f) _

/-- The own slot and the received ones are the whole landing buffer. -/
theorem comm_in : iprop(slotPts c c (commFinal m ρ c) ∗ bigSep (Finset.univ.erase c) fun j : Dev nD => recvPay m ρ c j)
    ⊢ bufPts c cc0_scratch1 fullShare (commFinal m ρ c) := by
  rw [comm_eq, bigSep_univ_at _ c]
  exact Entails.rfl

/-- The statistics block is the share kept and the thirty-one shares sent with. -/
theorem acc_out : bufPts c cc0_scratch0 fullShare (stat m ρ c)
    ⊢ iprop(accPts m ρ c (Transfers.shareDrop fullShare 31) ∗ bigSep Finset.univ fun k : Fin 31 => sendPay m ρ c k) := by
  rw [← accPts_eq m ρ c]
  exact Transfers.pointsTo_toks_split fullShare 31

/-- The share kept and the thirty-one shares that come back are the statistics block. -/
theorem acc_in : iprop(accPts m ρ c (Transfers.shareDrop fullShare 31) ∗ bigSep Finset.univ fun k : Fin 31 => sendPay m ρ c k)
    ⊢ bufPts c cc0_scratch0 fullShare (stat m ρ c) := by
  rw [← accPts_eq m ρ c]
  exact Transfers.pointsTo_toks_join fullShare 31

/-! ## The pieces of the body -/

/-- A piece of the body at the buffers and semaphores the call gives it. -/
abbrev onBufs {α : Type*} (p : ∀ (a0 : Memref sig .tc .vmem S2x64x64x64 .f32) (_ : a0.IsWhole) (a1 : Memref sig .tc .vmem S64x128 .f32) (_ : a1.IsWhole)
    (a2 : Memref sig .tc .vmem S2x64x64x128 .f32) (_ : a2.IsWhole) (a3 : Memref sig .tc .vmem S2x128 .f32) (_ : a3.IsWhole)
    (a4 : Memref sig .tc .vmem S32x2x128 .f32) (_ : a4.IsWhole) (_ : DmaSems sig S31) (_ : DmaSems sig S32), α) : α :=
  p xM (Memref.isWhole_whole _) wM (Memref.isWhole_whole _) oM (Memref.isWhole_whole _) aM (Memref.isWhole_whole _) cM (Memref.isWhole_whole _)
    cc0_scratch2 cc0_scratch3

/-- The barrier semaphore as the body names it. -/
abbrev bS : Sems sig S_ := SemArray.scalar (sig.barrier 0 rfl)

/-- What device `c` holds for the signals, short of the slots it hands out. -/
def SigPre : sProp 𝕄 :=
  iprop(records m ρ K ∗ (∃ W, owes (c : Thread nD τ) (O₀ c) W)
    ∗ bigSep Finset.univ fun i : Fin 31 => dutyTok ER (barCell (tgt c i)) 0 i.rev)

/-- Before the first signal: the duties to the barriers, each with the slot that it hands over. -/
theorem sig_start : iprop(SigPre m ρ K c ∗ bigSep Finset.univ fun i : Fin 31 => slotSome (F := F) c (tgt c i)) ⊢ SigSt m ρ K c 0 := by
  unfold SigPre SigSt O₀
  rw [frm_zero, bigSep_sep']
  iintro ⟨⟨HR, HO, HT⟩, HS⟩
  isplitl [HR]; · iexact HR
  isplitl [HO]; · iexact HO
  isplitl [HT]; · iexact HT
  iexact HS

/-- Piece 1: the landing buffer is cleared and the first devices are signalled. -/
theorem part1 (f : (cc0_scratch1 : Ref sig .tc).ty.Contents (Elt F)) :
    iprop(SigPre m ρ K c ∗ bufPts c cc0_scratch1 fullShare f) ⊢ wpB c (onBufs (k0_part1 (F := F))) fun v =>
      iprop(⌜v.1 = c ∧ v.2.1 = me c ∧ v.2.2.1 = bS⌝ ∗ SigSt m ρ K c 4 ∗ slotPts c c (commFinal m ρ c)) := by
  rw [k0_part1_eq_skeleton]
  unfold k0_part1_skel
  refine dev_then c ?_
  iintro ⟨Hs, Hc⟩
  iapply (step_then c (load_whole c cM fullShare f _ f (Memref.readAt_unit_zero (Elt F) cc0_scratch1 zero3 _ f))) $$ Hc
  iintro %v ⟨%hv, Hc⟩
  iapply (step_then c (store_whole c cM (Rect.unit (s := S32x2x128) ![0, 0, 0] S32x2x128.size inb_S32x2x128_S32x2x128_0_0_0) f _ (k0_pay1 (F := F))
    (Memref.write_access_unit_zero_univ (Elt F) cc0_scratch1 zero3 _ f _))) $$ Hc
  iintro %u Hc
  ihave Hc := comm_out m ρ c $$ Hc
  icases Hc with ⟨Hown, Hc⟩
  ihave Hs := (sig_start m ρ K c) $$ [Hs Hc]
  · isplitl [Hs]
    · iexact Hs
    · iexact Hc
  iapply (step_then c (A := SigSt m ρ K c 0) (B := fun _ => SigSt m ρ K c 1) (sig_step m ρ K c 0 _ (Fin.ext (k0_dev1_eq c)))) $$ Hs; iintro %_ Hs
  iapply (step_then c (A := SigSt m ρ K c 1) (B := fun _ => SigSt m ρ K c 2) (sig_step m ρ K c 1 _ (Fin.ext (k0_dev2_eq c)))) $$ Hs; iintro %_ Hs
  iapply (step_then c (A := SigSt m ρ K c 2) (B := fun _ => SigSt m ρ K c 3) (sig_step m ρ K c 2 _ (Fin.ext (k0_dev3_eq c)))) $$ Hs; iintro %_ Hs
  iapply (step_then c (A := SigSt m ρ K c 3) (B := fun _ => SigSt m ρ K c 4) (sig_step m ρ K c 3 _ (Fin.ext (k0_dev4_eq c)))) $$ Hs; iintro %_ Hs
  iapply (done (c := c) Entails.rfl)
  isplitr
  · ipureintro; exact ⟨rfl, rfl, rfl⟩
  isplitl [Hs]
  · iexact Hs
  · iexact Hown

/-- Piece 2: signals 4 to 9. -/
theorem part2 (v2 v : BitVec 32) : SigSt m ρ K c 4 ⊢ wpB c (onBufs (k0_part2 (F := F)) c v2 bS v) fun _ => SigSt m ρ K c 10 := by
  rw [k0_part2_eq_skeleton]
  unfold k0_part2_skel
  exact seq (sig_step m ρ K c 4 _ (Fin.ext (k0_dev5_eq c))) fun _ => seq (sig_step m ρ K c 5 _ (Fin.ext (k0_dev6_eq c))) fun _ =>
    seq (sig_step m ρ K c 6 _ (Fin.ext (k0_dev7_eq c))) fun _ => seq (sig_step m ρ K c 7 _ (Fin.ext (k0_dev8_eq c))) fun _ =>
    seq (sig_step m ρ K c 8 _ (Fin.ext (k0_dev9_eq c))) fun _ => seq (sig_step m ρ K c 9 _ (Fin.ext (k0_dev10_eq c))) fun _ =>
    done Entails.rfl

/-- Piece 3: signals 10 to 15. -/
theorem part3 (v2 v : BitVec 32) : SigSt m ρ K c 10 ⊢ wpB c (onBufs (k0_part3 (F := F)) c v2 bS v) fun _ => SigSt m ρ K c 16 := by
  rw [k0_part3_eq_skeleton]
  unfold k0_part3_skel
  exact seq (sig_step m ρ K c 10 _ (Fin.ext (k0_dev11_eq c))) fun _ => seq (sig_step m ρ K c 11 _ (Fin.ext (k0_dev12_eq c))) fun _ =>
    seq (sig_step m ρ K c 12 _ (Fin.ext (k0_dev13_eq c))) fun _ => seq (sig_step m ρ K c 13 _ (Fin.ext (k0_dev14_eq c))) fun _ =>
    seq (sig_step m ρ K c 14 _ (Fin.ext (k0_dev15_eq c))) fun _ => seq (sig_step m ρ K c 15 _ (Fin.ext (k0_dev16_eq c))) fun _ =>
    done Entails.rfl

/-- Piece 4: signals 16 to 21. -/
theorem part4 (v2 v : BitVec 32) : SigSt m ρ K c 16 ⊢ wpB c (onBufs (k0_part4 (F := F)) c v2 bS v) fun _ => SigSt m ρ K c 22 := by
  rw [k0_part4_eq_skeleton]
  unfold k0_part4_skel
  exact seq (sig_step m ρ K c 16 _ (Fin.ext (k0_dev17_eq c))) fun _ => seq (sig_step m ρ K c 17 _ (Fin.ext (k0_dev18_eq c))) fun _ =>
    seq (sig_step m ρ K c 18 _ (Fin.ext (k0_dev19_eq c))) fun _ => seq (sig_step m ρ K c 19 _ (Fin.ext (k0_dev20_eq c))) fun _ =>
    seq (sig_step m ρ K c 20 _ (Fin.ext (k0_dev21_eq c))) fun _ => seq (sig_step m ρ K c 21 _ (Fin.ext (k0_dev22_eq c))) fun _ =>
    done Entails.rfl

/-- Piece 5: signals 22 to 27. -/
theorem part5 (v2 v : BitVec 32) : SigSt m ρ K c 22 ⊢ wpB c (onBufs (k0_part5 (F := F)) c v2 bS v) fun _ => SigSt m ρ K c 28 := by
  rw [k0_part5_eq_skeleton]
  unfold k0_part5_skel
  exact seq (sig_step m ρ K c 22 _ (Fin.ext (k0_dev23_eq c))) fun _ => seq (sig_step m ρ K c 23 _ (Fin.ext (k0_dev24_eq c))) fun _ =>
    seq (sig_step m ρ K c 24 _ (Fin.ext (k0_dev25_eq c))) fun _ => seq (sig_step m ρ K c 25 _ (Fin.ext (k0_dev26_eq c))) fun _ =>
    seq (sig_step m ρ K c 26 _ (Fin.ext (k0_dev27_eq c))) fun _ => seq (sig_step m ρ K c 27 _ (Fin.ext (k0_dev28_eq c))) fun _ =>
    done Entails.rfl

/-- Piece 7: copies 0 to 3 start. -/
theorem part7 (v2 : BitVec 32) : SendSt m ρ K c 0 ⊢ wpB c (onBufs (k0_part7 (F := F)) c v2) fun _ => SendSt m ρ K c 4 := by
  rw [k0_part7_eq_skeleton]
  unfold k0_part7_skel
  exact seq (send_step m ρ K c 0 _ (Fin.ext (k0_dev32_eq c)) _ (slot_eq c _ (k0_off2_eq c) _ _) _ _ rfl (rsem_eq c _)) fun _ =>
    seq (send_step m ρ K c 1 _ (Fin.ext (k0_dev33_eq c)) _ (slot_eq c _ (k0_off2_eq c) _ _) _ _ rfl (rsem_eq c _)) fun _ =>
    seq (send_step m ρ K c 2 _ (Fin.ext (k0_dev34_eq c)) _ (slot_eq c _ (k0_off2_eq c) _ _) _ _ rfl (rsem_eq c _)) fun _ =>
    seq (send_step m ρ K c 3 _ (Fin.ext (k0_dev35_eq c)) _ (slot_eq c _ (k0_off2_eq c) _ _) _ _ rfl (rsem_eq c _)) fun _ =>
    done Entails.rfl

/-- Piece 8: copies 4 to 6 start. -/
theorem part8 (v2 : BitVec 32) : SendSt m ρ K c 4 ⊢ wpB c (onBufs (k0_part8 (F := F)) c v2) fun _ => SendSt m ρ K c 7 := by
  rw [k0_part8_eq_skeleton]
  unfold k0_part8_skel
  exact seq (send_step m ρ K c 4 _ (Fin.ext (k0_dev36_eq c)) _ (slot_eq c _ (k0_off2_eq c) _ _) _ _ rfl (rsem_eq c _)) fun _ =>
    seq (send_step m ρ K c 5 _ (Fin.ext (k0_dev37_eq c)) _ (slot_eq c _ (k0_off2_eq c) _ _) _ _ rfl (rsem_eq c _)) fun _ =>
    seq (send_step m ρ K c 6 _ (Fin.ext (k0_dev38_eq c)) _ (slot_eq c _ (k0_off2_eq c) _ _) _ _ rfl (rsem_eq c _)) fun _ =>
    done Entails.rfl

/-- Piece 9: copies 7 to 9 start. -/
theorem part9 (v2 v v' : BitVec 32) : SendSt m ρ K c 7 ⊢ wpB c (onBufs (k0_part9 (F := F)) c v2 v v') fun _ => SendSt m ρ K c 10 := by
  rw [k0_part9_eq_skeleton]
  unfold k0_part9_skel
  exact seq (send_step m ρ K c 7 _ (Fin.ext (k0_dev39_eq c)) _ (slot_eq c _ (k0_off2_eq c) _ _) _ _ rfl (rsem_eq c _)) fun _ =>
    seq (send_step m ρ K c 8 _ (Fin.ext (k0_dev40_eq c)) _ (slot_eq c _ (k0_off2_eq c) _ _) _ _ rfl (rsem_eq c _)) fun _ =>
    seq (send_step m ρ K c 9 _ (Fin.ext (k0_dev41_eq c)) _ (slot_eq c _ (k0_off2_eq c) _ _) _ _ rfl (rsem_eq c _)) fun _ =>
    done Entails.rfl

/-- Piece 10: copies 10 to 13 start. -/
theorem part10 (v2 : BitVec 32) : SendSt m ρ K c 10 ⊢ wpB c (onBufs (k0_part10 (F := F)) c v2) fun _ => SendSt m ρ K c 14 := by
  rw [k0_part10_eq_skeleton]
  unfold k0_part10_skel
  exact seq (send_step m ρ K c 10 _ (Fin.ext (k0_dev42_eq c)) _ (slot_eq c _ (k0_off2_eq c) _ _) _ _ rfl (rsem_eq c _)) fun _ =>
    seq (send_step m ρ K c 11 _ (Fin.ext (k0_dev43_eq c)) _ (slot_eq c _ (k0_off2_eq c) _ _) _ _ rfl (rsem_eq c _)) fun _ =>
    seq (send_step m ρ K c 12 _ (Fin.ext (k0_dev44_eq c)) _ (slot_eq c _ (k0_off2_eq c) _ _) _ _ rfl (rsem_eq c _)) fun _ =>
    seq (send_step m ρ K c 13 _ (Fin.ext (k0_dev45_eq c)) _ (slot_eq c _ (k0_off2_eq c) _ _) _ _ rfl (rsem_eq c _)) fun _ =>
    done Entails.rfl

/-- Piece 11: copies 14 to 16 start. -/
theorem part11 (v2 : BitVec 32) : SendSt m ρ K c 14 ⊢ wpB c (onBufs (k0_part11 (F := F)) c v2) fun _ => SendSt m ρ K c 17 := by
  rw [k0_part11_eq_skeleton]
  unfold k0_part11_skel
  exact seq (send_step m ρ K c 14 _ (Fin.ext (k0_dev46_eq c)) _ (slot_eq c _ (k0_off2_eq c) _ _) _ _ rfl (rsem_eq c _)) fun _ =>
    seq (send_step m ρ K c 15 _ (Fin.ext (k0_dev47_eq c)) _ (slot_eq c _ (k0_off2_eq c) _ _) _ _ rfl (rsem_eq c _)) fun _ =>
    seq (send_step m ρ K c 16 _ (Fin.ext (k0_dev48_eq c)) _ (slot_eq c _ (k0_off2_eq c) _ _) _ _ rfl (rsem_eq c _)) fun _ =>
    done Entails.rfl

/-- Piece 12: copies 17 to 19 start. -/
theorem part12 (v2 v v' : BitVec 32) : SendSt m ρ K c 17 ⊢ wpB c (onBufs (k0_part12 (F := F)) c v2 v v') fun _ => SendSt m ρ K c 20 := by
  rw [k0_part12_eq_skeleton]
  unfold k0_part12_skel
  exact seq (send_step m ρ K c 17 _ (Fin.ext (k0_dev49_eq c)) _ (slot_eq c _ (k0_off2_eq c) _ _) _ _ rfl (rsem_eq c _)) fun _ =>
    seq (send_step m ρ K c 18 _ (Fin.ext (k0_dev50_eq c)) _ (slot_eq c _ (k0_off2_eq c) _ _) _ _ rfl (rsem_eq c _)) fun _ =>
    seq (send_step m ρ K c 19 _ (Fin.ext (k0_dev51_eq c)) _ (slot_eq c _ (k0_off2_eq c) _ _) _ _ rfl (rsem_eq c _)) fun _ =>
    done Entails.rfl

/-- Piece 13: copies 20 to 23 start. -/
theorem part13 (v2 : BitVec 32) : SendSt m ρ K c 20 ⊢ wpB c (onBufs (k0_part13 (F := F)) c v2) fun _ => SendSt m ρ K c 24 := by
  rw [k0_part13_eq_skeleton]
  unfold k0_part13_skel
  exact seq (send_step m ρ K c 20 _ (Fin.ext (k0_dev52_eq c)) _ (slot_eq c _ (k0_off2_eq c) _ _) _ _ rfl (rsem_eq c _)) fun _ =>
    seq (send_step m ρ K c 21 _ (Fin.ext (k0_dev53_eq c)) _ (slot_eq c _ (k0_off2_eq c) _ _) _ _ rfl (rsem_eq c _)) fun _ =>
    seq (send_step m ρ K c 22 _ (Fin.ext (k0_dev54_eq c)) _ (slot_eq c _ (k0_off2_eq c) _ _) _ _ rfl (rsem_eq c _)) fun _ =>
    seq (send_step m ρ K c 23 _ (Fin.ext (k0_dev55_eq c)) _ (slot_eq c _ (k0_off2_eq c) _ _) _ _ rfl (rsem_eq c _)) fun _ =>
    done Entails.rfl

/-- Piece 14: copies 24 to 26 start. -/
theorem part14 (v2 : BitVec 32) : SendSt m ρ K c 24 ⊢ wpB c (onBufs (k0_part14 (F := F)) c v2) fun _ => SendSt m ρ K c 27 := by
  rw [k0_part14_eq_skeleton]
  unfold k0_part14_skel
  exact seq (send_step m ρ K c 24 _ (Fin.ext (k0_dev56_eq c)) _ (slot_eq c _ (k0_off2_eq c) _ _) _ _ rfl (rsem_eq c _)) fun _ =>
    seq (send_step m ρ K c 25 _ (Fin.ext (k0_dev57_eq c)) _ (slot_eq c _ (k0_off2_eq c) _ _) _ _ rfl (rsem_eq c _)) fun _ =>
    seq (send_step m ρ K c 26 _ (Fin.ext (k0_dev58_eq c)) _ (slot_eq c _ (k0_off2_eq c) _ _) _ _ rfl (rsem_eq c _)) fun _ =>
    done Entails.rfl

/-- Piece 15: copies 27 to 29 start. -/
theorem part15 (v2 v v' : BitVec 32) : SendSt m ρ K c 27 ⊢ wpB c (onBufs (k0_part15 (F := F)) c v2 v v') fun _ => SendSt m ρ K c 30 := by
  rw [k0_part15_eq_skeleton]
  unfold k0_part15_skel
  exact seq (send_step m ρ K c 27 _ (Fin.ext (k0_dev59_eq c)) _ (slot_eq c _ (k0_off2_eq c) _ _) _ _ rfl (rsem_eq c _)) fun _ =>
    seq (send_step m ρ K c 28 _ (Fin.ext (k0_dev60_eq c)) _ (slot_eq c _ (k0_off2_eq c) _ _) _ _ rfl (rsem_eq c _)) fun _ =>
    seq (send_step m ρ K c 29 _ (Fin.ext (k0_dev61_eq c)) _ (slot_eq c _ (k0_off2_eq c) _ _) _ _ rfl (rsem_eq c _)) fun _ =>
    done Entails.rfl

/-! ## Between the phases -/

/-- What the sends use beside the slots and the shares of the statistics. -/
def sendToks : sProp 𝕄 :=
  bigSep Finset.univ fun i : Fin 31 => iprop(dutyTok ER (sendCell c i) 0 0 ∗ dutyTok ER (recvCell (tgt c i) c) 0 0)

/-- Before the first copy: the slots handed over by the barrier, the shares of the statistics and the duties. -/
theorem send_start :
    iprop(records m ρ K ∗ (∃ W, owes (c : Thread nD τ) (dueR c 0) W) ∗ (bigSep Finset.univ fun i : Fin 31 => slotSome (F := F) (tgt c i) c)
      ∗ (bigSep Finset.univ fun i : Fin 31 => sendPay m ρ c i) ∗ sendToks (F := F) c) ⊢ SendSt m ρ K c 0 := by
  unfold SendSt sendToks
  rw [frm_zero, upto_zero, bigSep_sep' Finset.univ (fun i : Fin 31 => slotSome (F := F) (tgt c i) c),
    bigSep_sep' Finset.univ (fun i : Fin 31 => sendPay m ρ c i)]
  iintro ⟨HR, HO, Hs, Hp, Ht⟩
  isplitl [HR]; · iexact HR
  isplitl [HO]; · iexact HO
  isplitl [Hs Hp Ht]
  · isplitl [Hs]; · iexact Hs
    isplitl [Hp]; · iexact Hp
    iexact Ht
  · rw [bigSep_empty]; iempintro

/-- What the waits for the landings use. -/
def recvPre : sProp 𝕄 :=
  bigSep (Finset.univ.erase c) fun i : Dev nD => iprop(cred (tallyAt (recvCell c i) () N) ∗ atPos ER (recvCell c i) 0 ∅ 0)

/-- The credit the sends leave. -/
def sendCreds : sProp 𝕄 := bigSep Finset.univ fun i : Fin 31 => cred (tallyAt (sendCell c i) () N)

/-- After the last copy has started, the waits for the landings begin. -/
theorem recv_start : iprop(SendSt m ρ K c 31 ∗ recvPre (F := F) c) ⊢ iprop(RecvSt m ρ K c 0 ∗ sendCreds (F := F) c) := by
  unfold SendSt RecvSt recvPre sendCreds
  rw [frm_last, upto_last, othFrom_zero, othUpto_zero, dueR_last]
  iintro ⟨⟨HR, HO, -, HC⟩, HP⟩
  isplitl [HR HO HP]
  · isplitl [HR]; · iexact HR
    isplitl [HO]; · iexact HO
    isplitl [HP]; · iexact HP
    rw [bigSep_empty]; iempintro
  · iexact HC

/-- The landing semaphores of the other devices' slots, back at zero. -/
def recvDone : sProp 𝕄 := bigSep (Finset.univ.erase c) fun i : Dev nD => semVal (recvCell c i) 0

/-- After the last landing the whole landing buffer is back, with its final contents. -/
theorem recv_end : iprop(RecvSt m ρ K c 32 ∗ slotPts c c (commFinal m ρ c))
    ⊢ iprop(bufPts c cc0_scratch1 fullShare (commFinal m ρ c) ∗ records m ρ K ∗ (∃ W, owes (c : Thread nD τ) 0 W) ∗ recvDone (F := F) c) := by
  unfold RecvSt recvDone
  rw [othFrom_last, othUpto_last, bigSep_sep' (Finset.univ.erase c) (fun i => recvPay m ρ c i)]
  iintro ⟨⟨HR, HO, -, HP, HZ⟩, Hs⟩
  isplitl [Hs HP]
  · iapply (comm_in m ρ c)
    isplitl [Hs]; · iexact Hs
    iexact HP
  isplitl [HR]; · iexact HR
  isplitl [HO]; · iexact HO
  iexact HZ

/-- Where the departure semaphores stand before their waits. -/
def sendAts : sProp 𝕄 := bigSep Finset.univ fun i : Fin 31 => atPos ER (sendCell c i) 0 ∅ 0
/-- The departure semaphores, back at zero. -/
def sendDone : sProp 𝕄 := bigSep Finset.univ fun i : Fin 31 => semVal (sendCell c i) 0

/-- Before the first wait for a departure. -/
theorem wait_start :
    iprop(records m ρ K ∗ (∃ W, owes (c : Thread nD τ) 0 W) ∗ sendCreds (F := F) c ∗ sendAts (F := F) c) ⊢ WaitSt m ρ K c 0 := by
  unfold WaitSt sendCreds sendAts
  rw [frm_zero, upto_zero, bigSep_sep' Finset.univ (fun i : Fin 31 => cred (tallyAt (sendCell c i) () N))]
  iintro ⟨HR, HO, HC, HA⟩
  isplitl [HR]; · iexact HR
  isplitl [HO]; · iexact HO
  isplitl [HC HA]
  · isplitl [HC]; · iexact HC
    iexact HA
  · rw [bigSep_empty]; iempintro

/-- After the last departure the whole statistics block is back. -/
theorem wait_end : iprop(WaitSt m ρ K c 31 ∗ accPts m ρ c (Transfers.shareDrop fullShare 31))
    ⊢ iprop(bufPts c cc0_scratch0 fullShare (stat m ρ c) ∗ records m ρ K ∗ (∃ W, owes (c : Thread nD τ) 0 W) ∗ sendDone (F := F) c) := by
  unfold WaitSt sendDone
  rw [frm_last, upto_last, bigSep_sep' Finset.univ (fun i : Fin 31 => sendPay m ρ c i)]
  iintro ⟨⟨HR, HO, -, HP, HZ⟩, Hs⟩
  isplitl [Hs HP]
  · iapply (acc_in m ρ c)
    isplitl [Hs]; · iexact Hs
    iexact HP
  isplitl [HR]; · iexact HR
  isplitl [HO]; · iexact HO
  iexact HZ

/-- The landing semaphore of the device's own slot is never used. -/
theorem own_close : iprop(records m ρ K ∗ atPos ER (recvCell c c) 0 ∅ 0) ⊢ iprop(|={Set.univ}[frame]=> semVal (recvCell c c) 0) := by
  iintro ⟨#HR, Hat⟩
  iapply (Rounds.cell_close ER (exRd m ρ) (Set.mem_univ (K (c, rI c))) (fun h => h) (R := 0) (duties_own m ρ c)) $$ [Hat]
  isplitr; · iapply (inv_at m ρ K (c, rI c)); iexact HR
  iexact Hat

/-! ## The pieces that cross a phase -/

/-- What the barrier wait uses. -/
def barPre : sProp 𝕄 := iprop(levAts L lv ∗ cred (tallyAt (barCell c) () 31) ∗ atPos ER (barCell c) 0 ∅ 0)

/-- Piece 6: the last signals, the statistics of the own block, and the wait at the barrier. -/
theorem part6 (v2 v : BitVec 32) (f : (cc0_scratch0 : Ref sig .tc).ty.Contents (Elt F)) :
    iprop(SigSt m ρ K c 28 ∗ bufPts c cc0_stg0_0 fullShare (xstg m ρ c) ∗ bufPts c cc0_scratch0 fullShare f ∗ barPre (F := F) c ∗ sendToks (F := F) c)
      ⊢ wpB c (onBufs (k0_part6 (F := F)) c v2 bS v) fun v => iprop(⌜v = k0_pay2 (xstg m ρ c)⌝ ∗ SendSt m ρ K c 0
        ∗ bufPts c cc0_stg0_0 fullShare (xstg m ρ c) ∗ accPts m ρ c (Transfers.shareDrop fullShare 31) ∗ semVal (barCell c) 0) := by
  rw [k0_part6_eq_skeleton]
  unfold k0_part6_skel barPre
  iintro ⟨Hs, Hx, Ha, ⟨HL, Hc, Hat⟩, Ht⟩
  iapply (step_then c (A := SigSt m ρ K c 28) (B := fun _ => SigSt m ρ K c 29) (sig_step m ρ K c 28 _ (Fin.ext (k0_dev29_eq c)))) $$ Hs; iintro %_ Hs
  iapply (step_then c (A := SigSt m ρ K c 29) (B := fun _ => SigSt m ρ K c 30) (sig_step m ρ K c 29 _ (Fin.ext (k0_dev30_eq c)))) $$ Hs; iintro %_ Hs
  iapply (step_then c (A := SigSt m ρ K c 30) (B := fun _ => SigSt m ρ K c 31) (sig_step m ρ K c 30 _ (Fin.ext (k0_dev31_eq c)))) $$ Hs; iintro %_ Hs
  unfold SigSt
  rw [frm_last, dueB_last, add_zero]
  icases Hs with ⟨#HR, HO, -⟩
  iapply (step_then c (load_whole c xM fullShare (xstg m ρ c) _ (xstg m ρ c) (Memref.readAt_unit_zero (Elt F) cc0_stg0_0 zero4 _ _))) $$ Hx
  iintro %x ⟨%hx, Hx⟩
  subst hx
  iapply (step_then c (load_whole c aM fullShare f _ f (Memref.readAt_unit_zero (Elt F) cc0_scratch0 zero2 _ f))) $$ Ha
  iintro %y ⟨%hy, Ha⟩
  iapply (step_then c (store_whole c aM (Rect.unit (s := S2x128) ![0, 0] S2x128.size inb_S2x128_S2x128_0_0) f _ (stat m ρ c)
    (Memref.write_access_unit_zero_univ (Elt F) cc0_scratch0 zero2 _ f _))) $$ Ha
  iintro %u Ha
  ihave Ha := (acc_out m ρ c) $$ Ha
  icases Ha with ⟨Ha, Hp⟩
  iapply (step_then c (bar_wait m ρ K c)) $$ [HL Hc Hat HO]
  · isplitl [HL]
    · isplitr; · iexact HR
      iexact HL
    isplitl [HO]; · iexact HO
    isplitl [Hc]; · iexact Hc
    iexact Hat
  iintro %_ ⟨HO, Hz, Hsl⟩
  iapply (done (c := c) Entails.rfl)
  isplitr; · ipureintro; rfl
  isplitl [HO Hsl Hp Ht]
  · iapply (send_start m ρ K c)
    isplitr; · iexact HR
    isplitl [HO]; · iexact HO
    isplitl [Hsl]; · iexact Hsl
    isplitl [Hp]; · iexact Hp
    iexact Ht
  isplitl [Hx]; · iexact Hx
  isplitl [Ha]; · iexact Ha
  iexact Hz

set_option maxHeartbeats 4000000 in
/-- Piece 16: the last copy starts, and the waits for slots 0 to 8. -/
theorem part16 : iprop(SendSt m ρ K c 30 ∗ recvPre (F := F) c)
    ⊢ wpB c (onBufs (k0_part16 (F := F)) c (me c)) fun _ => iprop(RecvSt m ρ K c 9 ∗ sendCreds (F := F) c) := by
  rw [k0_part16_eq_skeleton]
  unfold k0_part16_skel
  refine seq (framed (send_step m ρ K c 30 _ (Fin.ext (k0_dev62_eq c)) _ (slot_eq c _ (k0_off2_eq c) _ _) _ _ rfl (rsem_eq c _))) fun _ =>
    (recv_start m ρ K c).trans ?_
  refine recv_step m ρ K c 0 _ rfl _ rfl _ _ ?_
  refine recv_step m ρ K c 1 _ rfl _ rfl _ _ ?_
  refine recv_step m ρ K c 2 _ rfl _ rfl _ _ ?_
  refine recv_step m ρ K c 3 _ rfl _ rfl _ _ ?_
  refine recv_step m ρ K c 4 _ rfl _ rfl _ _ ?_
  refine recv_step m ρ K c 5 _ rfl _ rfl _ _ ?_
  refine recv_step m ρ K c 6 _ rfl _ rfl _ _ ?_
  refine recv_step m ρ K c 7 _ rfl _ rfl _ _ ?_
  refine recv_step m ρ K c 8 _ rfl _ rfl _ _ ?_
  exact done Entails.rfl

set_option maxHeartbeats 4000000 in
/-- Piece 17: the waits for slots 9 to 18. -/
theorem part17 (R : sProp 𝕄) : iprop(RecvSt m ρ K c 9 ∗ R) ⊢ wpB c (onBufs (k0_part17 (F := F)) (me c)) fun _ => iprop(RecvSt m ρ K c 19 ∗ R) := by
  rw [k0_part17_eq_skeleton]
  unfold k0_part17_skel
  refine recv_step m ρ K c 9 _ rfl _ rfl _ _ ?_
  refine recv_step m ρ K c 10 _ rfl _ rfl _ _ ?_
  refine recv_step m ρ K c 11 _ rfl _ rfl _ _ ?_
  refine recv_step m ρ K c 12 _ rfl _ rfl _ _ ?_
  refine recv_step m ρ K c 13 _ rfl _ rfl _ _ ?_
  refine recv_step m ρ K c 14 _ rfl _ rfl _ _ ?_
  refine recv_step m ρ K c 15 _ rfl _ rfl _ _ ?_
  refine recv_step m ρ K c 16 _ rfl _ rfl _ _ ?_
  refine recv_step m ρ K c 17 _ rfl _ rfl _ _ ?_
  refine recv_step m ρ K c 18 _ rfl _ rfl _ _ ?_
  exact done Entails.rfl

set_option maxHeartbeats 4000000 in
/-- Piece 18: the waits for slots 19 to 28. -/
theorem part18 (R : sProp 𝕄) : iprop(RecvSt m ρ K c 19 ∗ R) ⊢ wpB c (onBufs (k0_part18 (F := F)) (me c)) fun _ => iprop(RecvSt m ρ K c 29 ∗ R) := by
  rw [k0_part18_eq_skeleton]
  unfold k0_part18_skel
  refine recv_step m ρ K c 19 _ rfl _ rfl _ _ ?_
  refine recv_step m ρ K c 20 _ rfl _ rfl _ _ ?_
  refine recv_step m ρ K c 21 _ rfl _ rfl _ _ ?_
  refine recv_step m ρ K c 22 _ rfl _ rfl _ _ ?_
  refine recv_step m ρ K c 23 _ rfl _ rfl _ _ ?_
  refine recv_step m ρ K c 24 _ rfl _ rfl _ _ ?_
  refine recv_step m ρ K c 25 _ rfl _ rfl _ _ ?_
  refine recv_step m ρ K c 26 _ rfl _ rfl _ _ ?_
  refine recv_step m ρ K c 27 _ rfl _ rfl _ _ ?_
  refine recv_step m ρ K c 28 _ rfl _ rfl _ _ ?_
  exact done Entails.rfl

/-- The loads after the last landing. -/
theorem part19 (v : FVec F S2x4096x64 .f32) :
    iprop(RecvSt m ρ K c 29 ∗ slotPts c c (commFinal m ρ c) ∗ accPts m ρ c (Transfers.shareDrop fullShare 31) ∗ bufPts c cc0_stg1_0 fullShare (wstg m ρ c))
      ⊢ wpB c (onBufs (k0_part19 (F := F)) (me c) v) fun u => iprop(⌜u.1 = k0_pay4 v (commFinal m ρ c) (stat m ρ c) ∧ u.2 = wstg m ρ c⌝
        ∗ bufPts c cc0_scratch1 fullShare (commFinal m ρ c) ∗ (records m ρ K ∗ (∃ W, owes (c : Thread nD τ) 0 W)) ∗ recvDone (F := F) c
        ∗ accPts m ρ c (Transfers.shareDrop fullShare 31) ∗ bufPts c cc0_stg1_0 fullShare (wstg m ρ c)) := by
  rw [k0_part19_eq_skeleton]
  unfold k0_part19_skel
  refine recv_step m ρ K c 29 _ rfl _ rfl _ _ ?_
  refine recv_step m ρ K c 30 _ rfl _ rfl _ _ ?_
  refine recv_step m ρ K c 31 _ rfl _ rfl _ _ ?_
  iintro ⟨Hr, Hs, Ha, Hw⟩
  ihave Hr := (recv_end m ρ K c) $$ [Hr Hs]
  · isplitl [Hr]; · iexact Hr
    iexact Hs
  icases Hr with ⟨Hc, HR, HO, Hz⟩
  iapply (step_then c (load_whole c cM fullShare (commFinal m ρ c) _ (commFinal m ρ c) (Memref.readAt_unit_zero (Elt F) cc0_scratch1 zero3 _ _))) $$ Hc
  iintro %x ⟨%hx, Hc⟩
  ihave Ha := (Entails.of_eq (accPts_eq m ρ c _)) $$ Ha
  iapply (step_then c (load_whole c aM _ (stat m ρ c) _ (stat m ρ c) (Memref.readAt_unit_zero (Elt F) cc0_scratch0 zero2 _ _))) $$ Ha
  iintro %y ⟨%hy, Ha⟩
  iapply (step_then c (load_whole c wM _ (wstg m ρ c) _ (wstg m ρ c) (Memref.readAt_unit_zero (Elt F) cc0_stg1_0 zero2 _ _))) $$ Hw
  iintro %z ⟨%hz, Hw⟩
  subst hx hy hz
  iapply (done (c := c) Entails.rfl)
  isplitr; · ipureintro; exact ⟨rfl, rfl⟩
  isplitl [Hc]; · iexact Hc
  isplitl [HR HO]
  · isplitl [HR]; · iexact HR
    iexact HO
  isplitl [Hz]; · iexact Hz
  isplitl [Ha]; · iapply (Entails.of_eq (accPts_eq m ρ c _).symm) $$ Ha
  iexact Hw

/-- Piece 20: the result is stored, and the first five departures are waited for. -/
theorem part20 (v : FVec F S8192x64 .f32) (w : Vec F S64x128 .f32) (f : (cc0_stg2_0 : Ref sig .tc).ty.Contents (Elt F)) :
    iprop(bufPts c cc0_stg2_0 fullShare f ∗ WaitSt m ρ K c 0)
      ⊢ wpB c (onBufs (k0_part20 (F := F)) c v w) fun _ => iprop(WaitSt m ρ K c 5 ∗ bufPts c cc0_stg2_0 fullShare (k0_pay5 v w)) := by
  rw [k0_part20_eq_skeleton]
  unfold k0_part20_skel
  refine seq (framed (load_whole c oM fullShare f _ f (Memref.readAt_unit_zero (Elt F) cc0_stg2_0 zero4 _ f))) fun x => ?_
  refine (sep_mono_left sep_elim_right).trans ?_
  refine seq (framed (store_whole c oM (Rect.unit (s := S2x64x64x128) ![0, 0, 0, 0] S2x64x64x128.size inb_S2x64x64x128_S2x64x64x128_0_0_0_0) f _ (k0_pay5 v w)
    (Memref.write_access_unit_zero_univ (Elt F) cc0_stg2_0 zero4 _ f _))) fun _ => ?_
  refine sep_comm.trans ?_
  exact seq (framed (wait_step m ρ K c 0 _ rfl _ _)) fun _ =>
    seq (framed (wait_step m ρ K c 1 _ rfl _ _)) fun _ =>
    seq (framed (wait_step m ρ K c 2 _ rfl _ _)) fun _ =>
    seq (framed (wait_step m ρ K c 3 _ rfl _ _)) fun _ =>
    seq (framed (wait_step m ρ K c 4 _ rfl _ _)) fun _ =>
    done Entails.rfl

/-- Piece 21: the waits for departures 5 to 11. -/
theorem part21 : WaitSt m ρ K c 5 ⊢ wpB c (onBufs (k0_part21 (F := F)) c) fun _ => WaitSt m ρ K c 12 := by
  rw [k0_part21_eq_skeleton]
  unfold k0_part21_skel
  exact seq (wait_step m ρ K c 5 _ rfl _ _) fun _ =>
    seq (wait_step m ρ K c 6 _ rfl _ _) fun _ =>
    seq (wait_step m ρ K c 7 _ rfl _ _) fun _ =>
    seq (wait_step m ρ K c 8 _ rfl _ _) fun _ =>
    seq (wait_step m ρ K c 9 _ rfl _ _) fun _ =>
    seq (wait_step m ρ K c 10 _ rfl _ _) fun _ =>
    seq (wait_step m ρ K c 11 _ rfl _ _) fun _ =>
    done Entails.rfl

/-- Piece 22: the waits for departures 12 to 17. -/
theorem part22 : WaitSt m ρ K c 12 ⊢ wpB c (onBufs (k0_part22 (F := F)) c) fun _ => WaitSt m ρ K c 18 := by
  rw [k0_part22_eq_skeleton]
  unfold k0_part22_skel
  exact seq (wait_step m ρ K c 12 _ rfl _ _) fun _ =>
    seq (wait_step m ρ K c 13 _ rfl _ _) fun _ =>
    seq (wait_step m ρ K c 14 _ rfl _ _) fun _ =>
    seq (wait_step m ρ K c 15 _ rfl _ _) fun _ =>
    seq (wait_step m ρ K c 16 _ rfl _ _) fun _ =>
    seq (wait_step m ρ K c 17 _ rfl _ _) fun _ =>
    done Entails.rfl

/-- Piece 23: the waits for departures 18 to 24. -/
theorem part23 : WaitSt m ρ K c 18 ⊢ wpB c (onBufs (k0_part23 (F := F)) c) fun _ => WaitSt m ρ K c 25 := by
  rw [k0_part23_eq_skeleton]
  unfold k0_part23_skel
  exact seq (wait_step m ρ K c 18 _ rfl _ _) fun _ =>
    seq (wait_step m ρ K c 19 _ rfl _ _) fun _ =>
    seq (wait_step m ρ K c 20 _ rfl _ _) fun _ =>
    seq (wait_step m ρ K c 21 _ rfl _ _) fun _ =>
    seq (wait_step m ρ K c 22 _ rfl _ _) fun _ =>
    seq (wait_step m ρ K c 23 _ rfl _ _) fun _ =>
    seq (wait_step m ρ K c 24 _ rfl _ _) fun _ =>
    done Entails.rfl

end Cert.Exchange
-- ==== Proof.Whole.lean ====
/-
# The whole body on one device

From what device `c` holds after the launch, its body ends with the result block stored, every buffer whole again and every
semaphore back at zero.
-/
module

public import proofs.«01_k».proof.Proof.Body

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

/-- The result block of device `c`. -/
def outAt : (cc0_stg2_0 : Ref sig .tc).ty.Contents (Elt F) :=
  k0_pay5 (k0_pay4 (k0_pay2 (xstg m ρ c)) (commFinal m ρ c) (stat m ρ c)) (wstg m ρ c)

/-- What device `c` holds of the exchange before its body, beside the buffers. -/
def exPre : sProp 𝕄 :=
  iprop(SigPre m ρ K c ∗ barPre (F := F) c ∗ sendToks (F := F) c ∗ recvPre (F := F) c ∗ sendAts (F := F) c ∗ atPos ER (recvCell c c) 0 ∅ 0)

/-- What device `c` holds of the exchange after its body, beside the buffers. -/
def exPost : sProp 𝕄 :=
  iprop((∃ W, owes (c : Thread nD τ) 0 W) ∗ semVal (barCell c) 0 ∗ sendDone (F := F) c ∗ recvDone (F := F) c ∗ semVal (recvCell c c) 0)

/-- The first twenty-nine pieces' worth of the body: all but the last two waits. -/
theorem part24 (f0 : (cc0_scratch0 : Ref sig .tc).ty.Contents (Elt F)) (f1 : (cc0_scratch1 : Ref sig .tc).ty.Contents (Elt F))
    (f2 : (cc0_stg2_0 : Ref sig .tc).ty.Contents (Elt F)) :
    iprop(SigPre m ρ K c ∗ barPre (F := F) c ∗ sendToks (F := F) c ∗ recvPre (F := F) c ∗ sendAts (F := F) c
        ∗ bufPts c cc0_stg0_0 fullShare (xstg m ρ c) ∗ bufPts c cc0_stg1_0 fullShare (wstg m ρ c) ∗ bufPts c cc0_stg2_0 fullShare f2
        ∗ bufPts c cc0_scratch0 fullShare f0 ∗ bufPts c cc0_scratch1 fullShare f1)
      ⊢ wpB c (onBufs (k0_part24 (F := F))) fun v => iprop(⌜v = c⌝ ∗ WaitSt m ρ K c 29
        ∗ semVal (barCell c) 0 ∗ recvDone (F := F) c ∗ accPts m ρ c (Transfers.shareDrop fullShare 31)
        ∗ bufPts c cc0_stg0_0 fullShare (xstg m ρ c) ∗ bufPts c cc0_stg1_0 fullShare (wstg m ρ c) ∗ bufPts c cc0_stg2_0 fullShare (outAt m ρ c)
        ∗ bufPts c cc0_scratch1 fullShare (commFinal m ρ c)) := by
  rw [k0_part24_eq_skeleton]
  unfold k0_part24_skel
  iintro ⟨Hs, Hb, Ht, Hrp, Hsa, Hx, Hw, Ho, Ha, Hc⟩
  iapply (step_then c (part1 m ρ K c f1)) $$ [Hs Hc]
  · isplitl [Hs]; · iexact Hs
    iexact Hc
  iintro %v ⟨%hv, Hs, Hown⟩
  obtain ⟨d0, v2, v7, v25⟩ := v
  obtain ⟨h1, h2, h3⟩ := hv
  dsimp only at h1 h2 h3
  subst h1 h2 h3
  iapply (step_then d0 (part2 m ρ K d0 (me d0) v25)) $$ Hs; iintro %y2 Hs
  iapply (step_then d0 (part3 m ρ K d0 (me d0) y2)) $$ Hs; iintro %y3 Hs
  iapply (step_then d0 (part4 m ρ K d0 (me d0) y3)) $$ Hs; iintro %y4 Hs
  iapply (step_then d0 (part5 m ρ K d0 (me d0) y4)) $$ Hs; iintro %y5 Hs
  iapply (step_then d0 (part6 m ρ K d0 (me d0) y5 f0)) $$ [Hs Hx Ha Hb Ht]
  · isplitl [Hs]; · iexact Hs
    isplitl [Hx]; · iexact Hx
    isplitl [Ha]; · iexact Ha
    isplitl [Hb]; · iexact Hb
    iexact Ht
  iintro %z ⟨%hz, Hs, Hx, Ha, Hzb⟩
  subst hz
  iapply (step_then d0 (part7 m ρ K d0 (me d0))) $$ Hs; iintro %z7 Hs
  iapply (step_then d0 (part8 m ρ K d0 (me d0))) $$ Hs; iintro %z8 Hs
  iapply (step_then d0 (part9 m ρ K d0 (me d0) z8.1 z8.2)) $$ Hs; iintro %z9 Hs
  iapply (step_then d0 (part10 m ρ K d0 (me d0))) $$ Hs; iintro %z10 Hs
  iapply (step_then d0 (part11 m ρ K d0 (me d0))) $$ Hs; iintro %z11 Hs
  iapply (step_then d0 (part12 m ρ K d0 (me d0) z11.1 z11.2)) $$ Hs; iintro %z12 Hs
  iapply (step_then d0 (part13 m ρ K d0 (me d0))) $$ Hs; iintro %z13 Hs
  iapply (step_then d0 (part14 m ρ K d0 (me d0))) $$ Hs; iintro %z14 Hs
  iapply (step_then d0 (part15 m ρ K d0 (me d0) z14.1 z14.2)) $$ Hs; iintro %z15 Hs
  iapply (step_then d0 (part16 m ρ K d0)) $$ [Hs Hrp]
  · isplitl [Hs]; · iexact Hs
    iexact Hrp
  iintro %z16 Hs
  iapply (step_then d0 (part17 m ρ K d0 (sendCreds (F := F) d0))) $$ Hs; iintro %z17 Hs
  iapply (step_then d0 (part18 m ρ K d0 (sendCreds (F := F) d0))) $$ Hs; iintro %z18 Hs
  icases Hs with ⟨Hs, Hsc⟩
  iapply (step_then d0 (part19 m ρ K d0 (k0_pay2 (xstg m ρ d0)))) $$ [Hs Hown Ha Hw]
  · isplitl [Hs]; · iexact Hs
    isplitl [Hown]; · iexact Hown
    isplitl [Ha]; · iexact Ha
    iexact Hw
  iintro %u ⟨%hu, Hc, ⟨HR, HO⟩, Hzr, Ha, Hw⟩
  obtain ⟨u1, u2⟩ := u
  obtain ⟨hu1, hu2⟩ := hu
  dsimp only at hu1 hu2
  subst hu1 hu2
  ihave Hs := (wait_start m ρ K d0) $$ [HR HO Hsc Hsa]
  · isplitl [HR]; · iexact HR
    isplitl [HO]; · iexact HO
    isplitl [Hsc]; · iexact Hsc
    iexact Hsa
  iapply (step_then d0 (part20 m ρ K d0 (k0_pay4 (k0_pay2 (xstg m ρ d0)) (commFinal m ρ d0) (stat m ρ d0)) (wstg m ρ d0) f2)) $$ [Hs Ho]
  · isplitl [Ho]; · iexact Ho
    iexact Hs
  iintro %z20 ⟨Hs, Ho⟩
  iapply (step_then d0 (part21 m ρ K d0)) $$ Hs; iintro %z21 Hs
  iapply (step_then d0 (part22 m ρ K d0)) $$ Hs; iintro %z22 Hs
  iapply (step_then d0 (part23 m ρ K d0)) $$ Hs; iintro %z23 Hs
  iapply (step_then d0 (A := WaitSt m ρ K d0 25) (B := fun _ => WaitSt m ρ K d0 26) (wait_step m ρ K d0 25 _ rfl _ _)) $$ Hs; iintro %_ Hs
  iapply (step_then d0 (A := WaitSt m ρ K d0 26) (B := fun _ => WaitSt m ρ K d0 27) (wait_step m ρ K d0 26 _ rfl _ _)) $$ Hs; iintro %_ Hs
  iapply (step_then d0 (A := WaitSt m ρ K d0 27) (B := fun _ => WaitSt m ρ K d0 28) (wait_step m ρ K d0 27 _ rfl _ _)) $$ Hs; iintro %_ Hs
  iapply (step_then d0 (A := WaitSt m ρ K d0 28) (B := fun _ => WaitSt m ρ K d0 29) (wait_step m ρ K d0 28 _ rfl _ _)) $$ Hs; iintro %_ Hs
  iapply (done (c := d0) Entails.rfl)
  isplitr; · ipureintro; rfl
  isplitl [Hs]; · iexact Hs
  isplitl [Hzb]; · iexact Hzb
  isplitl [Hzr]; · iexact Hzr
  isplitl [Ha]; · iexact Ha
  isplitl [Hx]; · iexact Hx
  isplitl [Hw]; · iexact Hw
  isplitl [Ho]; · iexact Ho
  iexact Hc

/-- The body on device `c`. -/
theorem body_wp (f0 : (cc0_scratch0 : Ref sig .tc).ty.Contents (Elt F)) (f1 : (cc0_scratch1 : Ref sig .tc).ty.Contents (Elt F))
    (f2 : (cc0_stg2_0 : Ref sig .tc).ty.Contents (Elt F)) :
    iprop(exPre m ρ K c
        ∗ bufPts c cc0_stg0_0 fullShare (xstg m ρ c) ∗ bufPts c cc0_stg1_0 fullShare (wstg m ρ c) ∗ bufPts c cc0_stg2_0 fullShare f2
        ∗ bufPts c cc0_scratch0 fullShare f0 ∗ bufPts c cc0_scratch1 fullShare f1)
      ⊢ wpB c (onBufs (cc0_body (F := F))) fun _ => iprop(exPost (F := F) c
        ∗ bufPts c cc0_stg0_0 fullShare (xstg m ρ c) ∗ bufPts c cc0_stg1_0 fullShare (wstg m ρ c) ∗ bufPts c cc0_stg2_0 fullShare (outAt m ρ c)
        ∗ bufPts c cc0_scratch0 fullShare (stat m ρ c) ∗ bufPts c cc0_scratch1 fullShare (commFinal m ρ c)) := by
  rw [cc0_body_eq_skeleton]
  unfold cc0_body_skel exPre exPost
  iintro ⟨⟨Hs, Hb, Ht, Hrp, Hsa, Hat⟩, Hx, Hw, Ho, Ha, Hc⟩
  iapply (step_then c (part24 m ρ K c f0 f1 f2)) $$ [Hs Hb Ht Hrp Hsa Hx Hw Ho Ha Hc]
  · isplitl [Hs]; · iexact Hs
    isplitl [Hb]; · iexact Hb
    isplitl [Ht]; · iexact Ht
    isplitl [Hrp]; · iexact Hrp
    isplitl [Hsa]; · iexact Hsa
    isplitl [Hx]; · iexact Hx
    isplitl [Hw]; · iexact Hw
    isplitl [Ho]; · iexact Ho
    isplitl [Ha]; · iexact Ha
    iexact Hc
  iintro %d ⟨%hd, Hs, Hzb, Hzr, Ha, Hx, Hw, Ho, Hc⟩
  subst hd
  iapply (step_then d (A := WaitSt m ρ K d 29) (B := fun _ => WaitSt m ρ K d 30) (wait_step m ρ K d 29 _ rfl _ _)) $$ Hs; iintro %_ Hs
  iapply (step_then d (A := WaitSt m ρ K d 30) (B := fun _ => WaitSt m ρ K d 31) (wait_step m ρ K d 30 _ rfl _ _)) $$ Hs; iintro %_ Hs
  ihave Hs := (wait_end m ρ K d) $$ [Hs Ha]
  · isplitl [Hs]; · iexact Hs
    iexact Ha
  icases Hs with ⟨Ha, HR, HO, Hzs⟩
  unfold wpB
  rw [wp_pure]
  imod (own_close m ρ K d) $$ [HR Hat] with Hzo
  · isplitl [HR]; · iexact HR
    iexact Hat
  imodintro
  isplitl [HO Hzb Hzs Hzr Hzo]
  · isplitl [HO]; · iexact HO
    isplitl [Hzb]; · iexact Hzb
    isplitl [Hzs]; · iexact Hzs
    isplitl [Hzr]; · iexact Hzr
    iexact Hzo
  isplitl [Hx]; · iexact Hx
  isplitl [Hw]; · iexact Hw
  isplitl [Ho]; · iexact Ho
  isplitl [Ha]; · iexact Ha
  iexact Hc

end Cert.Exchange
-- ==== Proof.Launch.lean ====
/-
# The launch

The resources the launch deals each device, how they make what its body starts from, and the run of the whole program: it
terminates, every semaphore ends at zero, and every array ends at the contents the pipeline's data name.
-/
module

public import proofs.«01_k».proof.Proof.Whole
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds at its body's two ends -/

/-- The tokens of the barrier units device `c` gives. -/
def barToks (c : Dev nD) : sProp 𝕄 := bigSep Finset.univ fun i : Fin 31 => dutyTok ER (barCell (tgt c i)) 0 i.rev

/-- Device `c`'s own part of the exchange's ghost state: where its semaphores stand, and the tokens it pays with. -/
def linear (c : Dev nD) : sProp 𝕄 :=
  iprop((atPos ER (barCell c) 0 ∅ 0 ∗ sendAts (F := F) c ∗ atPos ER (recvCell c c) 0 ∅ 0
      ∗ bigSep (Finset.univ.erase c) fun j : Dev nD => atPos ER (recvCell c j) 0 ∅ 0)
    ∗ barToks (F := F) c ∗ sendToks (F := F) c)

/-- That and the shared records, at some names. -/
def ghost (c : Dev nD) : sProp 𝕄 := iprop(∃ K, records m ρ K ∗ linear (F := F) c)

/-- What device `c`'s body starts from, beside the buffers and what it owes. -/
def start (c : Dev nD) : sProp 𝕄 :=
  iprop(ghost m ρ c ∗ (cred (tallyAt (barCell c) () 31) ∗ bigSep (Finset.univ.erase c) fun j : Dev nD => cred (tallyAt (recvCell c j) () N)) ∗ levAts L lv)

/-- The two scratch buffers, at some contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- Every semaphore of the exchange at zero on device `c`. -/
def zeros (c : Dev nD) : sProp 𝕄 :=
  iprop(semVal (barCell c) 0 ∗ sendDone (F := F) c ∗ recvDone (F := F) c ∗ semVal (recvCell c c) 0)

/-- What a device holds before its one grid step. -/
def Φ₀ (c : Dev nD) : sProp 𝕄 := iprop(start m ρ c ∗ scratch (F := F) c)
/-- What it holds after. -/
def Φ₁ (c : Dev nD) : sProp 𝕄 := iprop(zeros (F := F) c ∗ scratch (F := F) c)

/-- The pipeline's data: the two staged inputs kept, the result block at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- From the launch's resources to the body's. -/
theorem exPre_intro (c : Dev nD) : iprop(start m ρ c ∗ ∃ W, owes (c : Thread nD τ) (O₀ c) W) ⊢ iprop(∃ K, exPre m ρ K c) := by
  unfold start ghost linear exPre SigPre barPre recvPre barToks
  iintro ⟨⟨⟨%K, HR, ⟨HaB, HaS, HaO, HaR⟩, HtB, HtS⟩, ⟨HcB, HcR⟩, HL⟩, HO⟩
  iexists K
  isplitl [HR HO HtB]
  · isplitl [HR]; · iexact HR
    isplitl [HO]; · iexact HO
    iexact HtB
  isplitl [HL HcB HaB]
  · isplitl [HL]; · iexact HL
    isplitl [HcB]; · iexact HcB
    iexact HaB
  isplitl [HtS]; · iexact HtS
  isplitl [HcR HaR]
  · rw [bigSep_sep' (Finset.univ.erase c) (fun j : Dev nD => cred (tallyAt (recvCell c j) () N))]
    isplitl [HcR]; · iexact HcR
    iexact HaR
  isplitl [HaS]; · iexact HaS
  iexact HaO

/-! ## The body's obligation -/

/-- The grid has one step. -/
theorem cfg0_N : cfg0.N = 1 := by decide
/-- That step. -/
def t₀ : Fin cfg0.N := ⟨0, by rw [cfg0_N]; decide⟩
/-- Every step is that step. -/
theorem fin_N (t : Fin cfg0.N) : t = t₀ := by
  obtain ⟨t, ht⟩ := t
  have := cfg0_N
  exact Fin.ext (by simp only [t₀]; omega)

/-- The three windows, one by one. -/
theorem bigSep_W (Φ : Fin cfg0.W → sProp 𝕄) : bigSep Finset.univ Φ = iprop(Φ (0 : Fin 3) ∗ Φ (1 : Fin 3) ∗ Φ (2 : Fin 3)) := bigSep_W0 Φ

/-- The block of `x` is fetched. -/
theorem fetch_0 (t : Fin cfg0.N) : (cfg0.win (0 : Fin 3)).fetch t = true := by rw [fin_N t]; rfl
/-- The projection is fetched. -/
theorem fetch_1 (t : Fin cfg0.N) : (cfg0.win (1 : Fin 3)).fetch t = true := by rw [fin_N t]; rfl

/-- Owning a whole buffer, with its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns
  simp only [Memref.view_whole, View.read_whole, View.set_whole]

/-- A staging buffer with its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What the body ends with. -/
def bodyPost (c : Dev nD) : sProp 𝕄 :=
  iprop(Φ₁ (F := F) c ∗ (dats m ρ 0 c).owesAt () t₀.succ ∗ stg c cc0_stg0_0 (xstg m ρ c) ∗ stg c cc0_stg1_0 (wstg m ρ c) ∗ stg c cc0_stg2_0 (outAt m ρ c))

/-- The body, from its start to its end. -/
theorem body_sound (c : Dev nD) : bodyPre m ρ c ⊢ wpB c (onBufs (cc0_body (F := F))) fun _ => bodyPost m ρ c := by
  unfold bodyPre Φ₀ scratch Dat.owesAt Pipeline.owesWithin
  iintro ⟨⟨Hst, ⟨%f0, Ha⟩, ⟨%f1, Hc⟩⟩, ⟨%W, %hW, HO⟩, ⟨%d0, %g0, %hg0, Hx⟩, ⟨%d1, %g1, %hg1, Hw⟩, ⟨%d2, %g2, %hg2, Ho⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  rw [show (dats m ρ 0 c).owed t₀.castSucc = O₀ c from rfl]
  ihave Hex := (exPre_intro m ρ c) $$ [Hst HO]
  · isplitl [Hst]; · iexact Hst
    iexists W; iexact HO
  icases Hex with ⟨%K, Hex⟩
  ihave Hwp := (body_wp m ρ K c f0 f1 g2) $$ [Hex Hx Hw Ho Ha Hc]
  · isplitl [Hex]; · iexact Hex
    isplitl [Hx]; · iexact Hx
    isplitl [Hw]; · iexact Hw
    isplitl [Ho]; · iexact Ho
    isplitl [Ha]; · iexact Ha
    iexact Hc
  unfold wpB
  iapply (wp_wand _ _) $$ Hwp
  iintro %_ H
  unfold exPost bodyPost Φ₁ zeros scratch Dat.owesAt Pipeline.owesWithin
  rw [show (dats m ρ 0 c).owed t₀.succ = 0 from rfl]
  icases H with ⟨⟨⟨%W', HO⟩, Hzb, Hzs, Hzr, Hzo⟩, Hx, Hw, Ho, Ha, Hc⟩
  isplitl [Hzb Hzs Hzr Hzo Ha Hc]
  · isplitl [Hzb Hzs Hzr Hzo]
    · isplitl [Hzb]; · iexact Hzb
      isplitl [Hzs]; · iexact Hzs
      isplitl [Hzr]; · iexact Hzr
      iexact Hzo
    isplitl [Ha]
    · iexists _; iexact Ha
    · iexists _; iexact Hc
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_sound m ρ c

end Cert.Exchange
-- ==== Proof.Run.lean ====
/-
# The run of the program

The launch element dealt out, the global step that gives every cell its invariant, the launch credit, and the run theorem.
-/
module

public import proofs.«01_k».proof.Proof.Launch
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

/-- The kernel's own semaphores. -/
abbrev osem : OIx → SemLoc sig := fun i => csem (.inr i)

/-- The body's own semaphores are apart from the pipeline's. -/
theorem ownSemFacts : Pipeline.OwnSemFacts cfg0.spec osem where
  isScoped := by decide
  inj := fun i j h => Sum.inr.inj (csem_injective h)
  disj := by decide

/-- Every window is held whole. -/
theorem share_eq (c : Dev nD) (w : Fin cfg0.W) : (dats m ρ 0 c).share w = fullShare := by unfold Dat.share; split <;> rfl

/-- Every cell of the exchange. -/
def exCells : Finset (GSem nD τ sig) := Finset.univ.map ⟨kcell, kcell_injective⟩

/-- The duty tokens by who pays with them: device `c`'s `k`-th barrier unit, landing, departure. -/
abbrev TIx : Type := Fin 31 ⊕ Fin 31 ⊕ Fin 31
/-- The token of a duty. -/
def tokOf (x : Dev nD × TIx) : GSem nD τ sig × ℕ × Fin 31 := match x.2 with
  | .inl k => (barCell (tgt x.1 k), 0, k.rev)
  | .inr (.inl k) => (sendCell x.1 k, 0, 0)
  | .inr (.inr k) => (recvCell (tgt x.1 k) x.1, 0, 0)

/-- Different duties have different tokens. -/
theorem tokOf_injective : Function.Injective tokOf := by
  rintro ⟨c, j⟩ ⟨c', j'⟩ h
  have hd : ((tokOf (c, j)).1.1.1 : Dev nD) = (tokOf (c', j')).1.1.1 := congrArg (fun x : GSem nD τ sig × ℕ × Fin 31 => x.1.1.1) h
  have hs : (tokOf (c, j)).1.2 = (tokOf (c', j')).1.2 := congrArg (fun x : GSem nD τ sig × ℕ × Fin 31 => x.1.2) h
  have hk : (tokOf (c, j)).2.2 = (tokOf (c', j')).2.2 := congrArg (fun x : GSem nD τ sig × ℕ × Fin 31 => x.2.2) h
  rcases j with k | k | k <;> rcases j' with k' | k' | k' <;> dsimp only [tokOf] at hd hs hk
  · have h1 : k = k' := Fin.rev_injective hk
    subst h1
    have h2 : c = c' := by rw [← tgt_tgt_rev c k, ← tgt_tgt_rev c' k, hd]
    rw [h2]
  · cases hs
  · cases hs
  · cases hs
  · have h1 : k = k' := sSem_inj (SemLoc.dma.inj hs)
    have h2 : c = c' := hd
    rw [h1, h2]
  · exact absurd (SemLoc.dma.inj hs) (sSem_ne_rSem _ _)
  · cases hs
  · exact absurd (SemLoc.dma.inj hs).symm (sSem_ne_rSem _ _)
  · have h1 : c = c' := rSem_inj (SemLoc.dma.inj hs)
    subst h1
    rw [tgt_inj c hd]

/-- All tokens of the exchange. -/
def exToks : Finset (GSem nD τ sig × ℕ × Fin 31) := Finset.univ.map ⟨tokOf, tokOf_injective⟩

/-- The ghost state at the start. -/
def u₀ : UU :=
  (initOf (Pipeline.cells cfgs cellOf_inj) (Pipeline.launchToks cfgs cellOf_inj), initOf exCells exToks)

/-- The tokens device `c` pays with. -/
def toks (c : Dev nD) : sProp 𝕄 := iprop(barToks (F := F) c ∗ sendToks (F := F) c)

/-- What the launch element deals device `c`. -/
def G (c : Dev nD) : sProp 𝕄 :=
  iprop((bigSep Finset.univ fun k : CIx => roundState ER (exRd m ρ) (kcell (c, k)) 0)
    ∗ (bigSep Finset.univ fun k : CIx => iprop(atPos ER (kcell (c, k)) 0 ∅ 0 ∗ reached ER (kcell (c, k)) 0)) ∗ toks (F := F) c)

/-- A device's cells carry its tokens. -/
theorem toks_eq (c : Dev nD) :
    (bigSep Finset.univ fun k : TIx => (dutyTok ER (tokOf (c, k)).1 (tokOf (c, k)).2.1 (tokOf (c, k)).2.2 : sProp 𝕄)) = toks c := by
  rw [bigSep_univ_sum, bigSep_univ_sum]
  unfold toks sendToks
  rw [bigSep_sep']
  rfl

/-- The ghost state at the start is every device's share of it. -/
theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CIx => Φ (kcell (c, k)) := by
    unfold exCells
    rw [bigSep_map, bigSep_univ_prod]
    rfl
  have hT : bigSep exToks (fun x => (dutyTok ER x.1 x.2.1 x.2.2 : sProp 𝕄)) = bigSep Finset.univ fun c : Dev nD => toks c := by
    unfold exToks
    rw [bigSep_map, bigSep_univ_prod]
    exact bigSep_congr fun c _ => toks_eq c
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  simp only [bigSep_sep']
  isplitl [Hst']; · iexact Hst'
  isplitl [Hat' Hr']
  · isplitl [Hat'] <;> iassumption
  iexact Htok'

/-! ## The global step -/

/-- A family over a device's cells, taken apart. -/
theorem cix_split (Φ : CIx → sProp 𝕄) :
    bigSep Finset.univ Φ = iprop(Φ bI ∗ (bigSep Finset.univ fun k : Fin 31 => Φ (sI k)) ∗ bigSep Finset.univ fun j : Dev nD => Φ (rI j)) := by
  rw [bigSep_univ_sum, bigSep_univ_sum, show (Finset.univ : Finset Unit) = {()} from rfl, bigSep_singleton]
  rfl

/-- The one semaphore outside the call is the barrier. -/
theorem unscopedSems0_eq (c : Dev nD) : (unscopedSems0 c : sProp 𝕄) = semVal (barCell c) 0 := by
  unfold unscopedSems0
  rw [bigSep_eq_bigSepL_of_eq [SemLoc.reg bSem] (by decide) (by decide)]
  rfl

/-- The call's own semaphores are those of departures and landings. -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 31 => semVal (sendCell c k) 0) ∗ bigSep Finset.univ fun j : Dev nD => semVal (recvCell c j) 0) := by
  unfold Pipeline.ownSems0
  rw [bigSep_univ_sum]
  rfl

/-- All semaphores of a device, at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, cix_split]
  iintro ⟨⟨HS, HV⟩, HB⟩
  isplitl [HB]; · iexact HB
  isplitl [HS]; · iexact HS
  iexact HV

/-- A device's cells are set up from its semaphores at zero. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CIx => iprop(∃ κ : ℕ, cellInv ER (exRd m ρ) κ (kcell (c, k))))
          ∗ (bigSep Finset.univ fun k : CIx => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (exRd m ρ) (kcell (c, k)) 0)
      ⊢ (|={Set.univ}=> bigSep Finset.univ fun k : CIx => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions and tokens, as its body wants them. -/
theorem linear_intro (c : Dev nD) :
    iprop((bigSep Finset.univ fun k : CIx => (atPos ER (kcell (c, k)) 0 ∅ 0 : sProp 𝕄)) ∗ toks (F := F) c) ⊢ linear (F := F) c := by
  rw [cix_split]
  unfold linear toks sendAts
  rw [bigSep_univ_at (fun j : Dev nD => (atPos ER (kcell (c, rI j)) 0 ∅ 0 : sProp 𝕄)) c]
  iintro ⟨⟨HB, HS, HO, HR⟩, HT⟩
  isplitl [HB HS HO HR]
  · isplitl [HB]; · iexact HB
    isplitl [HS]; · iexact HS
    isplitl [HO]; · iexact HO
    iexact HR
  iexact HT

/-- Each device gets its own part and a copy of what all share. -/
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens, regrouped from the cell that is paid to the device that pays. -/
theorem regroup :
    (bigSep Finset.univ fun c : Dev nD => iprop((bigSep Finset.univ fun k : CIx => iprop(∃ κ : ℕ, cellInv ER (exRd m ρ) κ (kcell (c, k))))
          ∗ (bigSep Finset.univ fun k : CIx => iprop(atPos ER (kcell (c, k)) 0 ∅ 0 ∗ reached ER (kcell (c, k)) 0)) ∗ toks (F := F) c) : sProp 𝕄)
      ⊢ bigSep Finset.univ (ghost m ρ) := by
  rw [bigSep_sep', bigSep_sep', ← bigSep_univ_prod (fun x : Dev nD × CIx => iprop(∃ κ : ℕ, cellInv ER (exRd m ρ) κ (kcell x))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun x : Dev nD × CIx => (reached ER (kcell x) 0 : sProp 𝕄))]
  iintro ⟨HI, ⟨Hat, #HR⟩, Htok⟩
  ihave HK := (BI.bigSep_exists_pi Finset.univ (fun (x : Dev nD × CIx) (κ : ℕ) => (cellInv ER (exRd m ρ) κ (kcell x) : sProp 𝕄))) $$ HI
  icases HK with ⟨%K, #HI⟩
  iapply (deal (R := records m ρ K) (Φ := linear (F := F)) fun c _ => show _ ⊢ ghost m ρ c from exists_intro (Φ := fun K => iprop(records m ρ K ∗ linear (F := F) c)) K)
  isplitr
  · unfold records
    isplitl; · iexact HI
    iexact HR
  · iapply ((Entails.of_eq (bigSep_sep' Finset.univ (fun c : Dev nD => bigSep Finset.univ fun k : CIx => (atPos ER (kcell (c, k)) 0 ∅ 0 : sProp 𝕄)) (toks (F := F))).symm).trans
      (bigSep_mono fun c _ => linear_intro c))
    isplitl [Hat]; · iexact Hat
    iexact Htok

/-- The step on all the devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch credit -/

/-- Unit after unit on one cell. -/
theorem units_sum (g : GSem nD τ sig) (s : Finset (Fin 31)) :
    (∑ i ∈ s, tallyAt g () 1 : CellTallies nD τ sig Unit) = tallyAt g () s.card := by
  induction s using Finset.induction_on with
  | empty => rw [Finset.sum_empty, Finset.card_empty, tallyAt_zero]
  | insert a s ha ih => rw [Finset.sum_insert ha, ih, tallyAt_add, Finset.card_insert_of_notMem ha, Nat.add_comm]

/-- The credit for a device's barrier. -/
theorem bar_credit (c : Dev nD) : (Pipeline.launchCred (fun d => dueB d 0) c : sProp 𝕄) ⊢ cred (tallyAt (barCell c) () 31) := by
  have h : (Pipeline.launchCred (fun d => dueB d 0) c : sProp 𝕄)
      = bigSep Finset.univ fun i : Fin 31 => Pipeline.launchCred (fun d => tallyAt (barCell (tgt d i)) () 1) c := by
    rw [← Pipeline.launchCred_sum, ← frm_zero]
    rfl
  have h' : (cred (tallyAt (barCell c) () 31) : sProp 𝕄) = bigSep Finset.univ fun _ : Fin 31 => cred (tallyAt (barCell c) () 1) := by
    rw [← Pipeline.cred_finsetSum, units_sum]
    rfl
  rw [h, h']
  exact bigSep_mono fun i _ => Pipeline.launchCred_tallyAt (.reg bSem) (fun d => tgt d i) (fun d => src d i)
    (fun d => tgt_src d i) (fun d => src_tgt d i) () 1 c

/-- The landing that the `i`-th transfers owe device `c`: its slot `src c i`, from that device. -/
theorem slot_credit (c : Dev nD) (i : Fin 31) :
    (Pipeline.launchCred (fun d => tallyAt (recvCell (tgt d i) d) () N) c : sProp 𝕄) ⊢ cred (tallyAt (recvCell c (src c i)) () N) := by
  refine (Pipeline.launchCred_elim _ c (.dma (rSem (src c i)))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ src c i →
      tallyOn (nD := nD) (sig := sig) (recvCell (tgt d i) d) (Finsupp.single () N) (recvCell c (src c i)) = 0 := fun d _ hd => by
    unfold tallyOn
    refine Pi.single_eq_of_ne (fun h => hd ?_) _
    exact (rSem_inj (SemLoc.dma.inj (congrArg Prod.snd h))).symm
  rw [Finset.sum_eq_single (src c i) h0 (fun h => absurd (Finset.mem_univ _) h)]
  unfold tallyOn
  rw [tgt_src, Pi.single_eq_same]

/-- The credit for a device's landings. -/
theorem recv_credit (c : Dev nD) :
    (Pipeline.launchCred (fun d => dueR d 0) c : sProp 𝕄) ⊢ bigSep (Finset.univ.erase c) fun j : Dev nD => cred (tallyAt (recvCell c j) () N) := by
  have h : (Pipeline.launchCred (fun d => dueR d 0) c : sProp 𝕄)
      = bigSep Finset.univ fun i : Fin 31 => Pipeline.launchCred (fun d => tallyAt (recvCell (tgt d i) d) () N) c := by
    rw [← Pipeline.launchCred_sum, ← frm_zero]
    rfl
  rw [h, ← src_cover c, bigSep_map]
  exact bigSep_mono fun i _ => slot_credit c i

/-- All credit of a device. -/
theorem creds (c : Dev nD) : (Pipeline.launchCred O₀ c : sProp 𝕄)
    ⊢ iprop(cred (tallyAt (barCell c) () 31) ∗ bigSep (Finset.univ.erase c) fun j : Dev nD => cred (tallyAt (recvCell c j) () N)) := by
  have h : (Pipeline.launchCred O₀ c : sProp 𝕄) = iprop(Pipeline.launchCred (fun d => dueR d 0) c ∗ Pipeline.launchCred (fun d => dueB d 0) c) :=
    Pipeline.launchCred_add (fun d => dueR d 0) (fun d => dueB d 0) c
  rw [h]
  iintro ⟨HR, HB⟩
  isplitl [HB]
  · iapply (bar_credit c) $$ HB
  · iapply (recv_credit c) $$ HR

/-! ## The launch's side conditions -/

/-- What a device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- What a device holds before its grid step, from what the launch gives. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What a device holds after its grid step gives back the scratch and the semaphores at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq,
    bigSep_univ_at (fun j : Dev nD => (semVal (recvCell c j) 0 : sProp 𝕄)) c]
  unfold Φ₁ zeros scratch sendDone recvDone
  iintro ⟨⟨HB, HS, HR, HO⟩, Hr⟩
  isplitl [HB]; · iexact HB
  isplitl [HS HR HO]
  · isplitl [HS]; · iexact HS
    isplitl [HO]; · iexact HO
    iexact HR
  iexact Hr

/-- No semaphore of the exchange is one of the pipeline's. -/
theorem stage_ne (w : Fin cfg0.W) (s : Fin (cfg0.win w).nbuf) : ∀ i, csem i ≠ .dma ((cfg0.win w).sem s) := fun i => by
  rcases i with u | i
  · exact fun h => by cases h
  · exact ownSemFacts.disj i w s

/-- The pipeline's own waits are allowed below what is owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_ne w s) _ (by
      rcases t with ⟨_ | _, ht⟩
      · exact Or.inl rfl
      · exact Or.inr rfl)

/-! ## The run -/

/-- The contents the run leaves in the array of window `w` on device `c`. -/
def finalA (c : Dev nD) (w : Fin cfg0.W) : Buf (Elt F) ((cfg0.win w).arr.view.loc (c : Thread nD τ)) := (dats m ρ 0 c).arrAt w cfg0.N

/-- Every array at its final contents, on every device. -/
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution of the program on the 32 devices
    terminates, with every array at its final contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two inputs end as they were. -/
theorem finalA_x (c : Dev nD) : finalA m ρ c (0 : Fin 3) = (s₀ m ρ).mem (win0_0.arr.view.loc (c : Thread nD τ)) :=
  (dats (F := F) m ρ 0 c).arrAt_in (0 : Fin 3) rfl _
/-- The projection ends unchanged. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.Exchange
-- ==== Proof.Ref.lean ====
/-
# The reference at an index

The reference's result is a chain of host operations. Here it is written as a chain of named stages, and each stage is
read at an index: sums over rows and columns, quotients by the number of summed elements, a root, an exponential, a sum of
products over the channels.
-/
module

public import proofs.«01_k».proof.Proof.Gen.ReferenceIdeal.Run
public import Idealize.ShloMosaic.Lib.IdealHost
public import Idealize.ShloMosaic.Lib.Pointwise

@[expose] public section

set_option maxRecDepth 16384

noncomputable section

namespace Cert.Exchange.Reference

open Cert.ReferenceIdeal Cert.ReferenceIdeal.Gen
open Idealize.ShloMosaic Idealize.ShloMosaic.TcCoe

variable {F : FTy → Type} [FloatOps F]

/-- The sum over rows and columns, divided by a count. -/
def meanOver (x : FVec F S2x2048x64x64 .f32) (n : FVec F S_ .f32) : FVec F S2x1x1x64 .f32 :=
  Host.divf (broadcastInDim S2x1x1x64 ![0, 3] bcast_S2x64_S2x1x1x64_0_3 (Host.reduceAdd x (constant S_ .f32 0x00000000#32) reducesTo_S2x2048x64x64_S2x64_d1_2 h_S_)) (broadcastInDim S2x1x1x64 ![] bcast_S_S2x1x1x64 n)

/-- The mean over rows and columns. -/
def mean (x : FVec F S2x2048x64x64 .f32) : FVec F S2x1x1x64 .f32 := meanOver x (constant S_ .f32 0x48000000#32)

/-- The elements less the mean. -/
def centred (x : FVec F S2x2048x64x64 .f32) : FVec F S2x2048x64x64 .f32 :=
  subf x (broadcastInDim S2x2048x64x64 ![0, 1, 2, 3] bcast_S2x1x1x64_S2x2048x64x64_0_1_2_3 (mean x))

/-- The number of summed elements less the correction, which is zero. -/
def count : FVec F S_ .f32 := subf (constant S_ .f32 0x48000000#32) (sitofp .f32 (constantI S_ 32 0#32))

/-- The variance over rows and columns. -/
def variance (x : FVec F S2x2048x64x64 .f32) : FVec F S2x1x1x64 .f32 :=
  select (broadcastInDim S2x1x1x64 ![] bcast_S_S2x1x1x64 (cmpf .ogt (count (F := F)) (constant S_ .f32 0x00000000#32)))
    (meanOver (mulf (centred x) (centred x)) count)
    (broadcastInDim S2x1x1x64 ![] bcast_S_S2x1x1x64 (id (constant S_ .f32 0x7FC00000#32)))

/-- The normalised elements. -/
def normalised (x : FVec F S2x2048x64x64 .f32) : FVec F S2x2048x64x64 .f32 :=
  Host.divf (centred x) (broadcastInDim S2x2048x64x64 ![0, 1, 2, 3] bcast_S2x1x1x64_S2x2048x64x64_0_1_2_3
    (Host.sqrt (addf (variance x) (broadcastInDim S2x1x1x64 ![] bcast_S_S2x1x1x64 (constant S_ .f32 0x3727C5AC#32)))))

/-- The gate. -/
def gated (h : FVec F S2x2048x64x64 .f32) : FVec F S2x2048x64x64 .f32 :=
  Host.divf h (addf (broadcastInDim S2x2048x64x64 ![] bcast_S_S2x2048x64x64 (constant S_ .f32 0x3F800000#32)) (Host.exp (Host.negf h)))

/-- The projection. -/
def projected (a : FVec F S2x2048x64x64 .f32) (w : FVec F S64x128 .f32) : FVec F S2x2048x64x128 .f32 :=
  shapeCast _ (Host.dotGeneral dot_S262144x64_S64x128_S262144x128_1_0_0_1_n_n none (shapeCast _ a shapeCasts_S2x2048x64x64_S262144x64) w) shapeCasts_S262144x128_S2x2048x64x128

/-- The reference's result is these stages in turn. -/
theorem result_eq (m : (ℓ : Loc nD τ sig) → Buf (Elt F) ℓ) (c : Dev nD) :
    Value.res_main_v19 m c = projected (gated (normalised (m ((c.tc : Thread nD τ).loc main_arg0)))) (m ((c.tc : Thread nD τ).loc main_arg1)) := rfl

/-- The sum over the two middle axes of a rank-four array, at an index. -/
theorem sum_middle {n0 n1 n2 n3 : Nat} (h : (⟨4, ![n0, n1, n2, n3]⟩ : Shape).ReducesTo [1, 2] ⟨2, ![n0, n3]⟩)
    (v : (⟨4, ![n0, n1, n2, n3]⟩ : Shape).Idx → EReal) (init : EReal) (b : Fin n0) (k : Fin n3) :
    Ideal.hostReduceAdd h v init (ix2 b k) = init + ∑ r : Fin n1, ∑ s : Fin n2, v (ix4 b r s k) := by
  have hd : ∀ i : (⟨4, ![n0, n1, n2, n3]⟩ : Shape).Idx, h.drop i = ix2 b k ↔ @Eq (Fin n0) (i 0) b ∧ @Eq (Fin n3) (i 3) k := by
    intro i
    constructor
    · intro e
      exact ⟨Fin.ext (congrArg Fin.val (congrFun e ⟨0, Nat.two_pos⟩)), Fin.ext (congrArg Fin.val (congrFun e ⟨1, Nat.one_lt_two⟩))⟩
    · rintro ⟨e0, e1⟩
      funext a
      match a with
      | ⟨0, _⟩ => exact Fin.ext (congrArg Fin.val e0)
      | ⟨1, _⟩ => exact Fin.ext (congrArg Fin.val e1)
  classical
  unfold Ideal.hostReduceAdd
  congr 1
  rw [Finset.sum_filter]
  refine (Finset.sum_congr rfl fun i _ => if_congr (hd i) rfl rfl).trans ?_
  rw [sum_idx4]
  simp only [ix4_0, ix4_3]
  rw [Finset.sum_eq_single b]
  · refine Finset.sum_congr rfl fun r _ => Finset.sum_congr rfl fun s _ => ?_
    rw [Finset.sum_eq_single k]
    · simp
    · intro e _ he
      simp [he]
    · simp
  · intro a _ ha
    simp [ha]
  · simp

/-- A mean over rows and columns, at an index. -/
theorem meanOver_apply (x : FVec Ideal S2x2048x64x64 .f32) (n : FVec Ideal S_ .f32) (b : Fin 2) (u v : Fin 1) (k : Fin 64) :
    meanOver x n (ix4 b u v k) = Ideal.div (∑ r : Fin 2048, ∑ s : Fin 64, (x (ix4 b r s k) : EReal)) (n ix0) := by
  unfold meanOver
  pointwise
  rw [sum_middle, zero_add]

/-- The mean, at an index. -/
theorem mean_apply (x : FVec Ideal S2x2048x64x64 .f32) (b : Fin 2) (u v : Fin 1) (k : Fin 64) :
    mean x (ix4 b u v k) = Ideal.div (∑ r : Fin 2048, ∑ s : Fin 64, (x (ix4 b r s k) : EReal)) (Ideal.ofBits .f32 0x48000000#32) :=
  meanOver_apply x _ b u v k

/-- The distance from the mean, at an index. -/
theorem centred_apply (x : FVec Ideal S2x2048x64x64 .f32) (b : Fin 2) (r : Fin 2048) (s : Fin 64) (k : Fin 64) :
    centred x (ix4 b r s k) = (x (ix4 b r s k) - mean x (ix4 b (0 : Fin 1) (0 : Fin 1) k) : EReal) := by
  unfold centred
  pointwise

/-- The pattern of the number of summed elements. -/
theorem bits_count : Ideal.ofBits .f32 0x48000000#32 = ((131072 : ℝ) : EReal) := by
  simp [Ideal.ofBits, Ideal.ieee, -EReal.coe_mul]; norm_num

/-- The number of elements. -/
theorem count_apply (i : S_.Idx) : (count (F := Ideal) i : EReal) = ((131072 : ℝ) : EReal) := by
  unfold count
  pointwise
  rw [bits_count, show (FloatOps.sitofp (F := Ideal) FTy.f32 0#32 : EReal) = (((0#32 : BitVec 32).toInt : ℝ) : EReal) from rfl]
  simp

/-- The variance, at an index. -/
theorem variance_apply (x : FVec Ideal S2x2048x64x64 .f32) (b : Fin 2) (u v : Fin 1) (k : Fin 64) :
    variance x (ix4 b u v k)
      = Ideal.div (∑ r : Fin 2048, ∑ s : Fin 64, (centred x (ix4 b r s k) * centred x (ix4 b r s k) : EReal)) ((131072 : ℝ) : EReal) := by
  unfold variance
  pointwise
  rw [count_apply, if_pos (by exact_mod_cast (by norm_num : (0 : ℝ) < 131072)), meanOver_apply, count_apply]
  rfl

/-- The normalised element. -/
theorem normalised_apply (x : FVec Ideal S2x2048x64x64 .f32) (b : Fin 2) (r : Fin 2048) (s : Fin 64) (k : Fin 64) :
    normalised x (ix4 b r s k)
      = Ideal.div (centred x (ix4 b r s k)) (Ideal.sqrt (variance x (ix4 b (0 : Fin 1) (0 : Fin 1) k) + Ideal.ofBits .f32 0x3727C5AC#32)) := by
  unfold normalised
  pointwise

/-- The gated element. -/
theorem gated_apply (h : FVec Ideal S2x2048x64x64 .f32) (b : Fin 2) (r : Fin 2048) (s : Fin 64) (k : Fin 64) :
    gated h (ix4 b r s k) = Ideal.div (h (ix4 b r s k)) (1 + Ideal.exp (-(h (ix4 b r s k) : EReal))) := by
  unfold gated
  pointwise

/-- The projection, at an index. -/
theorem projected_apply (a : FVec Ideal S2x2048x64x64 .f32) (w : FVec Ideal S64x128 .f32) (b : Fin 2) (r : Fin 2048) (s : Fin 64) (k : Fin 128) :
    projected a w (ix4 b r s k) = ∑ i : Fin 64, (a (ix4 b r s i) * w (ix2 i k) : EReal) := by
  unfold projected
  pointwise

end Cert.Exchange.Reference

end
-- ==== Proof.Moments.lean ====
/-
# The two ways to a variance

The kernel takes the variance from the sum and the sum of squares, the reference from the squared distances to the mean;
the kernel multiplies by a reciprocal root, the reference divides by a root. Over the reals these agree, and so do their
readings on the extended reals at finite elements.
-/
module

public import Idealize.ShloMosaic.Lib.IdealHost

@[expose] public section

noncomputable section

namespace Cert.Exchange

open Idealize.ShloMosaic

/-- The number of elements that one mean is over. -/
def total : ℝ := 131072

/-- The number that is added to a variance. -/
def eps : ℝ := 10995116 / 2 ^ 40

/-- The pattern of the number of elements. -/
theorem bits_total : Ideal.ofBits .f32 0x48000000#32 = ((total : ℝ) : EReal) := by
  simp [Ideal.ofBits, Ideal.ieee, -EReal.coe_mul, total]; norm_num

/-- The pattern of the number that is added to a variance. -/
theorem bits_eps : Ideal.ofBits .f32 0x3727C5AC#32 = ((eps : ℝ) : EReal) := by
  simp [Ideal.ofBits, Ideal.ieee, -EReal.coe_mul, eps]; norm_num

/-- There are some elements. -/
theorem total_pos : 0 < total := by unfold total; norm_num
/-- The number added to a variance is positive. -/
theorem eps_pos : 0 < eps := by unfold eps; norm_num

/-- A finite sum of finite elements is the sum of the reals. -/
theorem coe_sum {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- A quotient of reals by a number that is not zero. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The mean of the squares less the squared mean is the mean of the squared distances. -/
theorem moments {ι : Type} [Fintype ι] (f : ι → ℝ) (h : (Fintype.card ι : ℝ) = total) :
    (∑ i, f i * f i) / total - (∑ i, f i) / total * ((∑ i, f i) / total)
      = (∑ i, (f i - (∑ j, f j) / total) * (f i - (∑ j, f j) / total)) / total := by
  have hne : total ≠ 0 := total_pos.ne'
  set M := (∑ j, f j) / total with hM
  have hS : ∑ j, f j = M * total := by rw [hM]; field_simp
  have e : ∑ i, (f i - M) * (f i - M) = ∑ i, f i * f i - M * M * total := by
    have e1 : ∀ i, (f i - M) * (f i - M) = f i * f i - 2 * M * f i + M * M := fun i => by ring
    simp only [e1, Finset.sum_add_distrib, Finset.sum_sub_distrib, ← Finset.mul_sum, hS, Finset.sum_const, Finset.card_univ, nsmul_eq_mul, h]
    ring
  rw [e]
  field_simp

/-- The mean of the squared distances is not negative. -/
theorem spread_nonneg {ι : Type} [Fintype ι] (f : ι → ℝ) (M : ℝ) : 0 ≤ (∑ i, (f i - M) * (f i - M)) / total :=
  div_nonneg (Finset.sum_nonneg fun i _ => mul_self_nonneg _) total_pos.le

/-- The normalised element, over the reals. -/
def unit (x M V : ℝ) : ℝ := (x - M) * (Real.sqrt (V + eps))⁻¹

/-- Multiplying by the reciprocal root. -/
theorem unit_rsqrt (x M V : ℝ) (hV : 0 ≤ V) :
    ((x : EReal) - (M : EReal)) * Ideal.rsqrt ((V : EReal) + (eps : EReal)) = ((unit x M V : ℝ) : EReal) := by
  have h : 0 < V + eps := add_pos_of_nonneg_of_pos hV eps_pos
  rw [← EReal.coe_add, ← EReal.coe_sub, Ideal.rsqrt_coe, if_neg h.le.not_gt, if_neg h.ne', ← EReal.coe_mul]
  rfl

/-- Dividing by the root. -/
theorem unit_sqrt (x M V : ℝ) (hV : 0 ≤ V) :
    Ideal.div ((x : EReal) - (M : EReal)) (Ideal.sqrt ((V : EReal) + (eps : EReal))) = ((unit x M V : ℝ) : EReal) := by
  have h : 0 < V + eps := add_pos_of_nonneg_of_pos hV eps_pos
  rw [← EReal.coe_add, ← EReal.coe_sub, Ideal.sqrt_coe, if_neg h.le.not_gt, div_coe _ _ (Real.sqrt_pos.mpr h).ne', div_eq_mul_inv]
  rfl

/-- The gate. -/
def gate (h : EReal) : EReal := Ideal.div h (1 + Ideal.exp (-h))

/-- A sum over all but one place, the place's own value added at the end, is the whole sum. -/
theorem sum_with_own {ι M : Type} [Fintype ι] [DecidableEq ι] [AddCommMonoid M] (f : ι → M) (c : ι) :
    (∑ j, if j = c then 0 else f j) + f c = ∑ j, f j := by
  have e : f c = ∑ j, if j = c then f j else 0 := by simp
  conv_lhs => rw [e]
  rw [← Finset.sum_add_distrib]
  refine Finset.sum_congr rfl fun j _ => ?_
  by_cases h : j = c <;> simp [h]

/-- A sum over `m * n` places, `n` at a time. -/
theorem sum_blocks {M : Type} [AddCommMonoid M] {m n N : Nat} (hN : m * n = N) (f : Fin N → M) :
    ∑ q, f q = ∑ i : Fin m, ∑ j : Fin n, f ⟨i.val * n + j.val, by
      have := i.isLt; have := j.isLt
      calc i.val * n + j.val < i.val * n + n := by omega
        _ = (i.val + 1) * n := by ring
        _ ≤ m * n := Nat.mul_le_mul_right _ i.isLt
        _ = N := hN⟩ := by
  subst hN
  rw [← Fintype.sum_prod_type']
  refine (Fintype.sum_equiv finProdFinEquiv _ _ fun p => ?_).symm
  congr 1
  apply Fin.ext
  show p.1.val * n + p.2.val = p.2.val + n * p.1.val
  ring

end Cert.Exchange

end
-- ==== Proof.Value.lean ====
/-
# The kernel's result at an index

Each payload of the kernel is read at an index over the extended reals. At finite elements the kernel's result on device
`c` and block `c` of the reference's result are one sum of products of gated, normalised elements with the projection.
-/
module

public import proofs.«01_k».proof.Proof.Run
public import proofs.«01_k».proof.Proof.Ref
public import proofs.«01_k».proof.Proof.Moments

@[expose] public section

set_option maxRecDepth 16384

noncomputable section

namespace Cert.Exchange

open Cert.KernelIdeal Cert.KernelIdeal.Gen
open Idealize.ShloMosaic Idealize.ShloMosaic.TcCoe

/-! ## The payloads -/

/-- The block with its rows and columns as one axis. -/
theorem pay2_apply (X : FVec Ideal S2x64x64x64 .f32) (b : Fin 2) (q : Fin 4096) (k : Fin 64) :
    k0_pay2 (F := Ideal) X (ix3 b q k) = X (ix4 b (⟨q.val / 64, by omega⟩ : Fin 64) (⟨q.val % 64, by omega⟩ : Fin 64) k) := by
  unfold k0_pay2
  pointwise

/-- A sum over the joined axis is a sum over rows and columns. -/
theorem sum_pay2 (X : FVec Ideal S2x64x64x64 .f32) (g : EReal → EReal) (b : Fin 2) (k : Fin 64) :
    ∑ q : Fin 4096, g (k0_pay2 (F := Ideal) X (ix3 b q k)) = ∑ h : Fin 64, ∑ w : Fin 64, g (X (ix4 b h w k)) := by
  rw [sum_blocks (m := 64) (n := 64) rfl]
  refine Finset.sum_congr rfl fun h _ => Finset.sum_congr rfl fun w _ => ?_
  rw [pay2_apply]
  congr 3
  · apply Fin.ext
    show (h.val * 64 + w.val) / 64 = h.val
    omega
  · apply Fin.ext
    show (h.val * 64 + w.val) % 64 = w.val
    omega

/-- The first half of the statistics: the sums. -/
theorem pay3_sum (X : FVec Ideal S2x64x64x64 .f32) (b : Fin 2) (k : Fin 64) :
    k0_pay3 (F := Ideal) X (ix2 b (⟨k.val, by omega⟩ : Fin 128)) = ∑ h : Fin 64, ∑ w : Fin 64, (X (ix4 b h w k) : EReal) := by
  rw [← sum_pay2 X (fun e => e)]
  unfold k0_pay3
  pointwise

/-- The second half of the statistics: the sums of squares. -/
theorem pay3_square (X : FVec Ideal S2x64x64x64 .f32) (b : Fin 2) (k : Fin 64) :
    k0_pay3 (F := Ideal) X (ix2 b (⟨64 + k.val, by omega⟩ : Fin 128)) = ∑ h : Fin 64, ∑ w : Fin 64, (X (ix4 b h w k) * X (ix4 b h w k) : EReal) := by
  rw [← sum_pay2 X (fun e => e * e)]
  unfold k0_pay3
  pointwise

/-- The cleared landing buffer. -/
theorem pay1_apply (i : S32x2x128.Idx) : k0_pay1 (F := Ideal) i = (0 : EReal) := by
  unfold k0_pay1
  pointwise

/-- The gated, normalised elements, from the landed statistics and the device's own, at a row of the joined axes. -/
theorem pay4_row (v : FVec Ideal S2x4096x64 .f32) (a : FVec Ideal S32x2x128 .f32) (e : FVec Ideal S2x128 .f32)
    (R : Fin 8192) (k : Fin 64) (x T1 T2 V : ℝ)
    (hx : v (ix3 (⟨R.val / 4096, by omega⟩ : Fin 2) (⟨R.val % 4096, by omega⟩ : Fin 4096) k) = (x : EReal))
    (h1 : (∑ j, a (ix3 j (⟨R.val / 4096, by omega⟩ : Fin 2) (⟨k.val, by omega⟩ : Fin 128))) + e (ix2 (⟨R.val / 4096, by omega⟩ : Fin 2) (⟨k.val, by omega⟩ : Fin 128)) = (T1 : EReal))
    (h2 : (∑ j, a (ix3 j (⟨R.val / 4096, by omega⟩ : Fin 2) (⟨64 + k.val, by omega⟩ : Fin 128))) + e (ix2 (⟨R.val / 4096, by omega⟩ : Fin 2) (⟨64 + k.val, by omega⟩ : Fin 128)) = (T2 : EReal))
    (hV : T2 / total - T1 / total * (T1 / total) = V) (hV0 : 0 ≤ V) :
    k0_pay4 (F := Ideal) v a e (ix2 R k) = gate ((unit x (T1 / total) V : ℝ) : EReal) := by
  have hu := unit_rsqrt x (T1 / total) V hV0
  rw [← hV, EReal.coe_sub, EReal.coe_mul, ← div_coe _ _ total_pos.ne', ← div_coe _ _ total_pos.ne', ← h1, ← h2, ← hx, ← bits_total, ← bits_eps] at hu
  unfold gate
  rw [← zero_sub, ← hV, ← hu]
  unfold k0_pay4
  pointwise

/-- The same at a row given by its parts. -/
theorem pay4_apply (v : FVec Ideal S2x4096x64 .f32) (a : FVec Ideal S32x2x128 .f32) (e : FVec Ideal S2x128 .f32)
    (b : Fin 2) (q : Fin 4096) (k : Fin 64) (x T1 T2 V : ℝ)
    (hx : v (ix3 b q k) = (x : EReal))
    (h1 : (∑ j, a (ix3 j b (⟨k.val, by omega⟩ : Fin 128))) + e (ix2 b (⟨k.val, by omega⟩ : Fin 128)) = (T1 : EReal))
    (h2 : (∑ j, a (ix3 j b (⟨64 + k.val, by omega⟩ : Fin 128))) + e (ix2 b (⟨64 + k.val, by omega⟩ : Fin 128)) = (T2 : EReal))
    (hV : T2 / total - T1 / total * (T1 / total) = V) (hV0 : 0 ≤ V) :
    k0_pay4 (F := Ideal) v a e (ix2 (⟨b.val * 4096 + q.val, by omega⟩ : Fin 8192) k) = gate ((unit x (T1 / total) V : ℝ) : EReal) := by
  have hb : (⟨(b.val * 4096 + q.val) / 4096, by omega⟩ : Fin 2) = b := Fin.ext (by show (b.val * 4096 + q.val) / 4096 = b.val; omega)
  have hq : (⟨(b.val * 4096 + q.val) % 4096, by omega⟩ : Fin 4096) = q := Fin.ext (by show (b.val * 4096 + q.val) % 4096 = q.val; omega)
  refine pay4_row v a e _ k x T1 T2 V ?_ ?_ ?_ hV hV0
  · simpa only [hb, hq] using hx
  · simpa only [hb] using h1
  · simpa only [hb] using h2

/-- The projection's result, at an index. -/
theorem pay5_apply (a : FVec Ideal S8192x64 .f32) (e : FVec Ideal S64x128 .f32) (b : Fin 2) (h w : Fin 64) (d : Fin 128) :
    k0_pay5 (F := Ideal) a e (ix4 b h w d)
      = ∑ i : Fin 64, (a (ix2 (⟨b.val * 4096 + (⟨h.val * 64 + w.val, by omega⟩ : Fin 4096).val, by have := b.isLt; show b.val * 4096 + (h.val * 64 + w.val) < 8192; omega⟩ : Fin 8192) i) * e (ix2 i d) : EReal) := by
  unfold k0_pay5
  pointwise
  simp only [Nat.add_assoc]

/-! ## The whole array -/

/-- Row `h` of device `c`'s block, as a row of the whole array. -/
def row (c : Dev nD) (h : Fin 64) : Fin 2048 := ⟨c.val * 64 + h.val, by have hc : c.val < 32 := c.isLt; omega⟩

/-- Block `c` along the rows, at an index. -/
theorem block_apply {α : Type} {n : Nat} (c : Dev nD) (v : (⟨4, ![2, 2048, 64, n]⟩ : Shape).Idx → α)
    (ht : Layout.Tiles ⟨4, ![2, 64, 64, n]⟩ ⟨4, ![2, 2048, 64, n]⟩ 1 32) (b : Fin 2) (h w : Fin 64) (k : Fin n) :
    Layout.block ⟨4, ![2, 64, 64, n]⟩ ⟨4, ![2, 2048, 64, n]⟩ 1 32 c v ht (ix4 b h w k) = v (ix4 b (row c h) w k) := by
  unfold Layout.block
  congr 1
  funext a
  match a with
  | ⟨0, _⟩ => rfl
  | ⟨1, _⟩ => rfl
  | ⟨2, _⟩ => rfl
  | ⟨3, _⟩ => rfl

/-- A sum over the devices and their rows is a sum over all rows. -/
theorem sum_rows {M : Type} [AddCommMonoid M] (f : Fin 2048 → M) : ∑ c : Dev nD, ∑ h : Fin 64, f (row c h) = ∑ r, f r :=
  (sum_blocks (m := 32) (n := 64) rfl f).symm

variable (xs : Fin 2 → Fin 2048 → Fin 64 → Fin 64 → ℝ)

/-- The mean over rows and columns. -/
def meanOf (b : Fin 2) (k : Fin 64) : ℝ := (∑ r, ∑ s, xs b r s k) / total
/-- The mean squared distance to the mean. -/
def varOf (b : Fin 2) (k : Fin 64) : ℝ := (∑ r, ∑ s, (xs b r s k - meanOf xs b k) * (xs b r s k - meanOf xs b k)) / total

/-- A variance is not negative. -/
theorem varOf_nonneg (b : Fin 2) (k : Fin 64) : 0 ≤ varOf xs b k := by
  unfold varOf
  rw [← Fintype.sum_prod_type']
  exact spread_nonneg (fun p : Fin 2048 × Fin 64 => xs b p.1 p.2 k) _

/-- The mean of the squares less the squared mean is the variance. -/
theorem varOf_eq (b : Fin 2) (k : Fin 64) : (∑ r, ∑ s, xs b r s k * xs b r s k) / total - meanOf xs b k * meanOf xs b k = varOf xs b k := by
  have h := moments (fun p : Fin 2048 × Fin 64 => xs b p.1 p.2 k) (by simp [total])
  unfold varOf meanOf
  simpa only [Fintype.sum_prod_type] using h

/-- The gated, normalised element. -/
def gatedOf (b : Fin 2) (r : Fin 2048) (s : Fin 64) (k : Fin 64) : EReal := gate ((unit (xs b r s k) (meanOf xs b k) (varOf xs b k) : ℝ) : EReal)

/-! ## The reference -/

section Reference
open Cert.Exchange.Reference
variable (X : FVec Ideal Cert.ReferenceIdeal.S2x2048x64x64 .f32)

/-- The reference's mean is the mean of the reals. -/
theorem reference_mean (hX : ∀ b r s k, X (ix4 b r s k) = (xs b r s k : EReal)) (b : Fin 2) (u v : Fin 1) (k : Fin 64) :
    Reference.mean X (ix4 b u v k) = (meanOf xs b k : EReal) := by
  rw [mean_apply]
  simp only [hX, coe_sum]
  rw [bits_total, div_coe _ _ total_pos.ne']
  rfl

/-- The reference's variance is the variance of the reals. -/
theorem reference_variance (hX : ∀ b r s k, X (ix4 b r s k) = (xs b r s k : EReal)) (b : Fin 2) (u v : Fin 1) (k : Fin 64) :
    Reference.variance X (ix4 b u v k) = (varOf xs b k : EReal) := by
  rw [variance_apply]
  simp only [centred_apply, hX, reference_mean xs X hX, ← EReal.coe_sub, ← EReal.coe_mul, coe_sum]
  exact div_coe _ total total_pos.ne'

/-- The reference's gated elements. -/
theorem reference_gated (hX : ∀ b r s k, X (ix4 b r s k) = (xs b r s k : EReal)) (b : Fin 2) (r : Fin 2048) (s k : Fin 64) :
    gated (normalised X) (ix4 b r s k) = gatedOf xs b r s k := by
  have h : normalised X (ix4 b r s k) = ((unit (xs b r s k) (meanOf xs b k) (varOf xs b k) : ℝ) : EReal) := by
    rw [normalised_apply, centred_apply, hX, reference_mean xs X hX, reference_variance xs X hX, bits_eps]
    exact unit_sqrt _ _ _ (varOf_nonneg xs b k)
  rw [gated_apply, h]
  rfl

end Reference

/-! ## The kernel -/

section Kernel
variable (m : (ℓ : Loc nD τ sig) → Buf (Elt Ideal) ℓ) (ρ : Dev nD → PrngReg)

/-- The staged block is device `c`'s argument. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- The staged projection is device `c`'s second argument. -/
theorem wstg_eq (c : Dev nD) : wstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

/-- The result array ends at what the body left for it. -/
theorem finalA_out (c : Dev nD) : finalA m ρ c (2 : Fin 3) = outAt m ρ c := by
  have ho : (win0_2.blk (0 : Fin 1)).view.read (Elt Ideal) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 :=
    funext fun a => by fin_cases a <;> decide
  exact (Memref.read_access_unit_zero (Elt Ideal) main_v1 hz (fun a => by fin_cases a <;> decide) _).symm.trans ho

/-- The landing buffer, as an array of extended reals. -/
abbrev landedAt (c : Dev nD) : FVec Ideal S32x2x128 .f32 := commFinal m ρ c
/-- The statistics, as an array of extended reals. -/
abbrev statAt (c : Dev nD) : FVec Ideal S2x128 .f32 := stat m ρ c
/-- The projection, as an array of extended reals. -/
abbrev projAt (c : Dev nD) : FVec Ideal S64x128 .f32 := m ((c : Thread nD τ).loc main_arg1)

/-- The result, as an array of extended reals. -/
abbrev resultAt (c : Dev nD) : FVec Ideal S2x64x64x128 .f32 := outAt m ρ c

/-- The landed blocks with device `c`'s own added are all devices' statistics. -/
theorem landed_sum (c : Dev nD) (b : Fin 2) (k : Fin 128) :
    (∑ j : Fin 32, landedAt m ρ c (ix3 j b k)) + statAt m ρ c (ix2 b k) = ∑ j : Dev nD, (statAt m ρ j (ix2 b k) : EReal) := by
  rw [← sum_with_own (fun j : Dev nD => (statAt m ρ j (ix2 b k) : EReal)) c]
  congr 1
  refine Finset.sum_congr rfl fun j _ => ?_
  by_cases h : j = c
  · rw [if_pos h]
    exact (if_pos (congrArg Fin.val h)).trans (pay1_apply _)
  · rw [if_neg h]
    refine (if_neg fun e => h (Fin.ext e)).trans ?_
    congr 1

variable (hx : ∀ (c : Dev nD) b h w k, m ((c : Thread nD τ).loc main_arg0) (ix4 b h w k) = (xs b (row c h) w k : EReal))
include hx

/-- The first half of the statistics' total is the sum of the elements. -/
theorem total_sum (c : Dev nD) (b : Fin 2) (k : Fin 64) :
    (∑ j : Fin 32, landedAt m ρ c (ix3 j b (⟨k.val, by omega⟩ : Fin 128))) + statAt m ρ c (ix2 b (⟨k.val, by omega⟩ : Fin 128))
      = ((∑ r, ∑ s, xs b r s k : ℝ) : EReal) := by
  rw [landed_sum, ← sum_rows, ← coe_sum]
  refine Finset.sum_congr rfl fun j _ => ?_
  unfold statAt stat
  rw [pay3_sum, xstg_eq]
  simp only [hx, coe_sum]

/-- The second half is the sum of their squares. -/
theorem total_square (c : Dev nD) (b : Fin 2) (k : Fin 64) :
    (∑ j : Fin 32, landedAt m ρ c (ix3 j b (⟨64 + k.val, by omega⟩ : Fin 128))) + statAt m ρ c (ix2 b (⟨64 + k.val, by omega⟩ : Fin 128))
      = ((∑ r, ∑ s, xs b r s k * xs b r s k : ℝ) : EReal) := by
  rw [landed_sum, ← sum_rows, ← coe_sum]
  refine Finset.sum_congr rfl fun j _ => ?_
  unfold statAt stat
  rw [pay3_square, xstg_eq]
  simp only [hx, ← EReal.coe_mul, coe_sum]

/-- The kernel's result on device `c`, at an index. -/
theorem outAt_apply (c : Dev nD) (b : Fin 2) (h w : Fin 64) (d : Fin 128) :
    resultAt m ρ c (ix4 b h w d) = ∑ i : Fin 64, (gatedOf xs b (row c h) w i * projAt m c (ix2 i d) : EReal) := by
  unfold resultAt outAt
  rw [pay5_apply]
  refine Finset.sum_congr rfl fun i _ => ?_
  rw [wstg_eq]
  congr 1
  refine pay4_apply _ _ _ b ⟨h.val * 64 + w.val, by omega⟩ i _ _ _ (varOf xs b i) ?_ (total_sum xs m ρ hx c b i) (total_square xs m ρ hx c b i)
    (varOf_eq xs b i) (varOf_nonneg xs b i)
  rw [pay2_apply, xstg_eq, ← hx]
  congr 2
  · apply Fin.ext
    show (h.val * 64 + w.val) / 64 = h.val
    omega
  · apply Fin.ext
    show (h.val * 64 + w.val) % 64 = w.val
    omega

end Kernel

end Cert.Exchange

end
-- ==== Proof.Claims.lean ====
/-
# The claims

Each program's frame is read off its run. The value claim puts the kernel's result on device `c` beside block `c` of the
reference's.
-/
module

public import proofs.«01_k».proof.Defs
public import proofs.«01_k».proof.Proof.Value
public import proofs.«01_k».proof.Proof.Gen.Kernel
public import proofs.«01_k».proof.Proof.Gen.Pre_finite_x_KernelIdeal
public import proofs.«01_k».proof.Proof.Gen.Pre_finite_x_ReferenceIdeal
public import Idealize.ShloMosaic.Lib.Quiescent

@[expose] public section

set_option maxRecDepth 16384

noncomputable section

namespace Cert.Exchange

open Idealize.ShloMosaic Idealize.ShloMosaic.TcCoe Idealize.SL.Sem

/-! ## The frames -/

/-- The kernel, for any float values and from any memory: it terminates, its arguments end unchanged, its counters end at zero. -/
theorem frame_any {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m g c), (h.1 c (1 : Fin 3)).trans (finalA_w m g c)⟩, h.2⟩) (run_main (F := F) m g)

/-- The frame of the kernel over the extended reals. -/
theorem quiescent_kernel_ideal : Cert.quiescent_KernelIdeal := fun m g _ => frame_any (F := Ideal) m g

/-- The same where the precondition holds. -/
theorem quiescent_kernel_ideal_pre : Cert.quiescent_KernelIdeal_pre_finite_x_KernelIdeal := fun m g _ => frame_any (F := Ideal) m g

/-- The two programs' body tables on bit patterns are one. -/
theorem bodies_eq : Cert.Kernel.defs₀ (F := Bits) = Cert.KernelIdeal.defs₀ (F := Bits) := by
  unfold Cert.Kernel.defs₀ Cert.KernelIdeal.defs₀
  refine congrArg _ ?_
  funext k a
  match k, a with
  | 0, (t, s) => rfl
  | ⟨_ + 1, h⟩, _ => exact absurd h (by omega)

/-- So are the tables with the pipeline added. -/
theorem defs_eq : Cert.Kernel.defs (F := Bits) = Cert.KernelIdeal.defs (F := Bits) := by
  unfold Cert.Kernel.defs Cert.KernelIdeal.defs
  rw [bodies_eq]
  rfl

/-- The kernel on bit patterns: the same run, since both programs have one text. -/
theorem quiescent_kernel : Cert.quiescent_Kernel := by
  intro m g _
  rw [defs_eq]
  exact frame_any (F := Bits) m g

/-- The reference's run with its counters, of which it has none. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m g)

/-- The frame of the reference. -/
theorem quiescent_reference : Cert.quiescent_ReferenceIdeal := fun m g _ => frame_reference m g

/-- The same where the precondition holds. -/
theorem quiescent_reference_pre : Cert.quiescent_ReferenceIdeal_pre_finite_x_ReferenceIdeal := fun m g _ => frame_reference m g

/-! ## The value -/

/-- Where the precondition holds, an element is a real. -/
theorem finite_of_pre (X : FVec Ideal Cert.Pre_finite_x_KernelIdeal.S2x64x64x64 .f32) (W : FVec Ideal Cert.Pre_finite_x_KernelIdeal.S64x128 .f32)
    (h : Cert.Pre_finite_x_KernelIdeal.fn (F := Ideal) X W = fun _ => 1#1) (i : Cert.Pre_finite_x_KernelIdeal.S2x64x64x64.Idx) :
    ((EReal.toReal (X i) : ℝ) : EReal) = X i := by
  have e := congrFun h i
  unfold Cert.Pre_finite_x_KernelIdeal.fn at e
  pointwise at e
  rw [show Ideal.ofBits FTy.f32 2139095040#32 = ⊤ from by simp [Ideal.ofBits, Ideal.ieee]] at e
  have hlt : max (X i : EReal) (-(X i : EReal)) < ⊤ := by
    by_contra hn
    rw [show decide ((FloatOps.absf (F := Ideal) (X i) : EReal) < ⊤) = false from decide_eq_false hn] at e
    exact absurd e (by decide)
  refine EReal.coe_toReal ?_ ?_
  · intro ht
    rw [ht] at hlt
    simp at hlt
  · intro hb
    rw [hb] at hlt
    simp at hlt

/-- The reference's input, as reals. -/
def realsOf (X : FVec Ideal Cert.ReferenceIdeal.S2x2048x64x64 .f32) : Fin 2 → Fin 2048 → Fin 64 → Fin 64 → ℝ :=
  fun b r s k => EReal.toReal (X (ix4 b r s k))

/-- Every row lies in some device's block. -/
theorem row_split (r : Fin 2048) : row (⟨r.val / 64, by omega⟩ : Fin 32) (⟨r.val % 64, by omega⟩ : Fin 64) = r :=
  Fin.ext (by show r.val / 64 * 64 + r.val % 64 = r.val; omega)

/-- An array whose blocks are all finite is the array of its reals. -/
theorem reals_of_blocks (X : FVec Ideal Cert.ReferenceIdeal.S2x2048x64x64 .f32)
    (ht : Layout.Tiles ⟨4, ![2, 64, 64, 64]⟩ ⟨4, ![2, 2048, 64, 64]⟩ 1 32)
    (h : ∀ (c : Fin 32) i, ((EReal.toReal (Layout.block ⟨4, ![2, 64, 64, 64]⟩ ⟨4, ![2, 2048, 64, 64]⟩ 1 32 c X ht i) : ℝ) : EReal)
      = Layout.block ⟨4, ![2, 64, 64, 64]⟩ ⟨4, ![2, 2048, 64, 64]⟩ 1 32 c X ht i)
    (b : Fin 2) (r : Fin 2048) (s k : Fin 64) : X (ix4 b r s k) = (realsOf X b r s k : EReal) := by
  have e := h ⟨r.val / 64, by omega⟩ (ix4 b (⟨r.val % 64, by omega⟩ : Fin 64) s k)
  rw [block_apply, row_split] at e
  exact e.symm

/-- Where every device's block of `x` is finite, each device's result is its block of the reference's result. -/
theorem algebraic : Cert.algebraic_KernelIdeal_ReferenceIdeal_pre_finite_x_KernelIdeal := by
  intro m g m' g' hpre hm
  let X : FVec Ideal Cert.ReferenceIdeal.S2x2048x64x64 .f32 := m' (((0 : Dev Cert.ReferenceIdeal.nD).tc : Thread Cert.ReferenceIdeal.nD Cert.ReferenceIdeal.τ).loc Cert.ReferenceIdeal.main_arg0)
  have hX : ∀ b r s k, X (ix4 b r s k) = (realsOf X b r s k : EReal) := by
    refine reals_of_blocks X (by decide) fun c i => ?_
    have e := finite_of_pre _ _ (hpre c) i
    rw [(hm c).1] at e
    exact e
  have hx : ∀ (c : Dev Cert.KernelIdeal.nD) (b : Fin 2) (h w k : Fin 64),
      m ((c.tc : Thread Cert.KernelIdeal.nD Cert.KernelIdeal.τ).loc Cert.KernelIdeal.main_arg0) (ix4 b h w k) = (realsOf X b (row c h) w k : EReal) := by
    intro c b h w k
    rw [(hm c).1]
    exact (block_apply c X _ b h w k).trans (hX b (row c h) w k)
  refine ⟨Cert.ReferenceIdeal.Value.res_main_v19 m' 0, ?_, ?_⟩
  · refine (θ_run Cert.KernelIdeal.defs _ _).mono (fun r h c => ⟨?_, (h.1 c (0 : Fin 3)).trans (finalA_x m g c), (h.1 c (1 : Fin 3)).trans (finalA_w m g c)⟩)
      (run_main (F := Ideal) m g)
    refine ((h.1 c (2 : Fin 3)).trans (finalA_out m g c)).trans ?_
    rw [Reference.result_eq]
    funext i
    rw [eq_ix4 i]
    refine (outAt_apply (realsOf X) m g hx c _ _ _ _).trans (Eq.symm ((block_apply c _ _ _ _ _ _).trans ((Reference.projected_apply _ _ _ _ _ _).trans ?_)))
    refine Finset.sum_congr rfl fun j _ => ?_
    exact congrArg₂ (fun a w : EReal => a * w) (reference_gated (realsOf X) X hX _ _ _ _) (congrFun (hm c).2.symm _)
  · exact (θ_run Cert.ReferenceIdeal.defs _ _).mono (fun _ h => h 0) (Cert.ReferenceIdeal.Value.run (F := Ideal) m' g')

end Cert.Exchange

end
-- ==== Proof.lean ====
/-
# The certificate

The theorem the certificate is checked by: the side conditions each program and predicate states, then the claims one by
one. The claims are proved in `Proof/Claims.lean`.
-/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_finite_x_KernelIdeal
public import proofs.«01_k».proof.Proof.Gen.Pre_finite_x_ReferenceIdeal

@[expose] public section

noncomputable section

namespace Cert.Proof

open Idealize.ShloMosaic Cert.Exchange

/-- Every claim holds. -/
theorem claim : Cert.Claim :=
  ⟨Cert.Kernel.Gen.facts, Cert.KernelIdeal.Gen.facts, Cert.ReferenceIdeal.Gen.facts, Cert.Pre_finite_x_KernelIdeal.Gen.facts,
    Cert.Pre_finite_x_ReferenceIdeal.Gen.facts, quiescent_kernel, quiescent_kernel_ideal, quiescent_kernel_ideal_pre,
    quiescent_reference, quiescent_reference_pre, trivial, algebraic⟩

end Cert.Proof

end
